-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S16x2048x256 : Shape := ⟨3, ![16, 2048, 256]⟩
abbrev S16x2048 : Shape := ⟨2, ![16, 2048]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S16x2048x256 .f32) (main_arg1 : IVec S16x2048 32) (main_arg2 : FVec F S128x256 .f32) (main_arg3 : FVec F S128 .f32) (main_arg4 : FVec F S1x128 .f32) (main_arg5 : FVec F S1 .f32) : IVec S_ 1 :=
  let main_v0 : FVec F S1x128 .f32 := Host.absf main_arg4
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S1 .f32 := Host.absf main_arg5
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S16x2048x256 : Shape := ⟨3, ![16, 2048, 256]⟩
abbrev S16x2048 : Shape := ⟨2, ![16, 2048]⟩
abbrev S128x256 : Shape := ⟨2, ![128, 256]⟩
abbrev S128 : Shape := ⟨1, ![128]⟩
abbrev S1x128 : Shape := ⟨2, ![1, 128]⟩
abbrev S1 : Shape := ⟨1, ![1]⟩
abbrev S32768x256 : Shape := ⟨2, ![32768, 256]⟩
abbrev S32768x1 : Shape := ⟨2, ![32768, 1]⟩
abbrev S256x128 : Shape := ⟨2, ![256, 128]⟩
abbrev S128x1 : Shape := ⟨2, ![128, 1]⟩
abbrev S8192x1 : Shape := ⟨2, ![8192, 1]⟩
abbrev S4x1 : Shape := ⟨2, ![4, 1]⟩
abbrev S4x256 : Shape := ⟨2, ![4, 256]⟩
abbrev S1x256 : Shape := ⟨2, ![1, 256]⟩
abbrev S16 : Shape := ⟨1, ![16]⟩
abbrev S_ : Shape := ⟨0, ![]⟩
abbrev S2048x256 : Shape := ⟨2, ![2048, 256]⟩
abbrev S8192x256 : Shape := ⟨2, ![8192, 256]⟩
abbrev S8192x128 : Shape := ⟨2, ![8192, 128]⟩
abbrev S1x8192x1 : Shape := ⟨3, ![1, 8192, 1]⟩
abbrev S1x1x1 : Shape := ⟨3, ![1, 1, 1]⟩
abbrev S1x1 : Shape := ⟨2, ![1, 1]⟩

abbrev nBuf : Space → Nat
  | .hbm => 14
  | .vmem => 8
  | .smem => 2
  | _ => 0

abbrev bufTy : (tb : Table) → Fin (tcTables nBuf tb) → BufTy
  | .hbm, ⟨0, _⟩ => ⟨S16x2048x256, .f32⟩
  | .hbm, ⟨1, _⟩ => ⟨S16x2048, .i32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S32768x256, .f32⟩
  | .hbm, ⟨7, _⟩ => ⟨S32768x1, .i32⟩
  | .hbm, ⟨8, _⟩ => ⟨S256x128, .f32⟩
  | .hbm, ⟨9, _⟩ => ⟨S256x128, .bf16⟩
  | .hbm, ⟨10, _⟩ => ⟨S1x128, .f32⟩
  | .hbm, ⟨11, _⟩ => ⟨S128x1, .f32⟩
  | .hbm, ⟨12, _⟩ => ⟨S32768x256, .f32⟩
  | .hbm, ⟨13, _⟩ => ⟨S16x2048x256, .f32⟩
  | .local _ .vmem, ⟨0, _⟩ => ⟨S8192x1, .i32⟩
  | .local _ .vmem, ⟨1, _⟩ => ⟨S8192x1, .i32⟩
  | .local _ .vmem, ⟨2, _⟩ => ⟨S256x128, .bf16⟩
  | .local _ .vmem, ⟨3, _⟩ => ⟨S1x128, .f32⟩
  | .local _ .vmem, ⟨4, _⟩ => ⟨S128x1, .f32⟩
  | .local _ .vmem, ⟨5, _⟩ => ⟨S4x256, .f32⟩
  | .local _ .vmem, ⟨6, _⟩ => ⟨S32768x256, .f32⟩
  | .local _ .vmem, ⟨7, _⟩ => ⟨S1x256, .f32⟩
  | .local _ .smem, ⟨0, _⟩ => ⟨S4x1, .f32⟩
  | .local _ .smem, ⟨1, _⟩ => ⟨S4x1, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch0 : Ref sig .tc := ⟨.smem, 0, rfl⟩
abbrev cc0_scratch1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_7 : BitVec 32) : Fin 1 → Nat :=
  let arg1 : BitVec 32 := BitVec.ofNat 32 (i 1).val
  let c4_i32 : BitVec 32 := 4#32
  let v13 : BitVec 32 := Scalar.muli arg1 c4_i32
  let v14 : BitVec 32 := Scalar.addi v13 c0_i32_7
  ![v14.toNat]
def k0_off2 (i : grid0.Coords) (c0_i32_6 : BitVec 32) : Fin 2 → Nat :=
  let arg1 : BitVec 32 := BitVec.ofNat 32 (i 1).val
  let c8192_i32_5 : BitVec 32 := 8192#32
  let v11 : BitVec 32 := Scalar.muli arg1 c8192_i32_5
  let v12 : BitVec 32 := Scalar.addi v11 c0_i32_6
  let c0_i32_8 : BitVec 32 := 0#32
  ![v12.toNat, 0]
def k0_off3 (i : grid0.Coords) : Fin 2 → Nat :=
  let arg1 : BitVec 32 := BitVec.ofNat 32 (i 1).val
  let c8192_i32_29 : BitVec 32 := 8192#32
  let v49 : BitVec 32 := Scalar.muli arg1 c8192_i32_29
  let v50 : Index := Scalar.indexCast v49
  let c0 : Index := 0#32
  ![v50.toNat, 0]
def k0_off4 (i : grid0.Coords) : Fin 2 → Nat :=
  let arg1 : BitVec 32 := BitVec.ofNat 32 (i 1).val
  let v77 : Index := Scalar.indexCast arg1
  let c0_42 : Index := 0#32
  ![v77.toNat, 0]
def k0_off5 (i : grid0.Coords) : Fin 2 → Nat :=
  let arg1 : BitVec 32 := BitVec.ofNat 32 (i 1).val
  let v90 : Index := Scalar.indexCast arg1
  let c0_46 : Index := 0#32
  ![v90.toNat, 0]
def k0_cond4 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off6 (i : grid0.Coords) : Fin 2 → Nat :=
  let arg1 : BitVec 32 := BitVec.ofNat 32 (i 1).val
  let c8192_i32 : BitVec 32 := 8192#32
  let v6 : BitVec 32 := Scalar.muli arg1 c8192_i32
  let v7 : Index := Scalar.indexCast v6
  let c0 : Index := 0#32
  ![v7.toNat, 0]
def k0_off7 (i : grid0.Coords) (c0_i32_13 : BitVec 32) : Fin 1 → Nat :=
  let arg1 : BitVec 32 := BitVec.ofNat 32 (i 1).val
  let c4_i32 : BitVec 32 := 4#32
  let v38 : BitVec 32 := Scalar.muli arg1 c4_i32
  let v39 : BitVec 32 := Scalar.addi v38 c0_i32_13
  ![v39.toNat]
def k0_off8 (i : grid0.Coords) (c0_i32_12 : BitVec 32) : Fin 2 → Nat :=
  let arg1 : BitVec 32 := BitVec.ofNat 32 (i 1).val
  let c8192_i32_11 : BitVec 32 := 8192#32
  let v36 : BitVec 32 := Scalar.muli arg1 c8192_i32_11
  let v37 : BitVec 32 := Scalar.addi v36 c0_i32_12
  let c0_i32_14 : BitVec 32 := 0#32
  ![v37.toNat, 0]
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S16x2048x256 : Shape := ⟨3, ![16, 2048, 256]⟩
abbrev S16x2048 : Shape := ⟨2, ![16, 2048]⟩
abbrev S128x256 : Shape := ⟨2, ![128, 256]⟩
abbrev S128 : Shape := ⟨1, ![128]⟩
abbrev S1x128 : Shape := ⟨2, ![1, 128]⟩
abbrev S1 : Shape := ⟨1, ![1]⟩
abbrev S_ : Shape := ⟨0, ![]⟩
abbrev S16x2048x1 : Shape := ⟨3, ![16, 2048, 1]⟩
abbrev S16x2048x128 : Shape := ⟨3, ![16, 2048, 128]⟩
abbrev S1x1x128 : Shape := ⟨3, ![1, 1, 128]⟩
abbrev S1x1x1 : Shape := ⟨3, ![1, 1, 1]⟩
abbrev S32768 : Shape := ⟨1, ![32768]⟩
abbrev S256 : Shape := ⟨1, ![256]⟩

abbrev nBuf : Space → Nat
  | .hbm => 63
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048, .i32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S1, .f32⟩
  | .hbm, ⟨6, _⟩ => ⟨S_, .i32⟩
  | .hbm, ⟨7, _⟩ => ⟨S16x2048, .i32⟩
  | .hbm, ⟨8, _⟩ => ⟨S16x2048, .i1⟩
  | .hbm, ⟨9, _⟩ => ⟨S_, .i32⟩
  | .hbm, ⟨10, _⟩ => ⟨S16x2048, .i32⟩
  | .hbm, ⟨11, _⟩ => ⟨S16x2048, .i1⟩
  | .hbm, ⟨12, _⟩ => ⟨S_, .i32⟩
  | .hbm, ⟨13, _⟩ => ⟨S16x2048, .i32⟩
  | .hbm, ⟨14, _⟩ => ⟨S16x2048, .i1⟩
  | .hbm, ⟨15, _⟩ => ⟨S16x2048, .i1⟩
  | .hbm, ⟨16, _⟩ => ⟨S16x2048x1, .i1⟩
  | .hbm, ⟨17, _⟩ => ⟨S_, .f32⟩
  | .hbm, ⟨18, _⟩ => ⟨S_, .f32⟩
  | .hbm, ⟨19, _⟩ => ⟨S16x2048x256, .i1⟩
  | .hbm, ⟨20, _⟩ => ⟨S16x2048x256, .f32⟩
  | .hbm, ⟨21, _⟩ => ⟨S16x2048x256, .f32⟩
  | .hbm, ⟨22, _⟩ => ⟨S16x2048x128, .f32⟩
  | .hbm, ⟨23, _⟩ => ⟨S1x1x128, .f32⟩
  | .hbm, ⟨24, _⟩ => ⟨S16x2048x128, .f32⟩
  | .hbm, ⟨25, _⟩ => ⟨S16x2048x128, .f32⟩
  | .hbm, ⟨26, _⟩ => ⟨S16x2048x128, .f32⟩
  | .hbm, ⟨27, _⟩ => ⟨S16x2048x1, .f32⟩
  | .hbm, ⟨28, _⟩ => ⟨S1x1x1, .f32⟩
  | .hbm, ⟨29, _⟩ => ⟨S16x2048x1, .f32⟩
  | .hbm, ⟨30, _⟩ => ⟨S16x2048x1, .f32⟩
  | .hbm, ⟨31, _⟩ => ⟨S16x2048x1, .i1⟩
  | .hbm, ⟨32, _⟩ => ⟨S_, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S32768, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S32768, .f32⟩
  | .hbm, ⟨43, _⟩ => ⟨S32768, .f32⟩
  | .hbm, ⟨44, _⟩ => ⟨S32768, .f32⟩
  | .hbm, ⟨45, _⟩ => ⟨S_, .f32⟩
  | .hbm, ⟨46, _⟩ => ⟨S_, .f32⟩
  | .hbm, ⟨47, _⟩ => ⟨S1, .f32⟩
  | .hbm, ⟨48, _⟩ => ⟨S32768, .f32⟩
  | .hbm, ⟨49, _⟩ => ⟨S32768, .f32⟩
  | .hbm, ⟨50, _⟩ => ⟨S16x2048x1, .f32⟩
  | .hbm, ⟨51, _⟩ => ⟨S16x2048x256, .f32⟩
  | .hbm, ⟨52, _⟩ => ⟨S16x2048x256, .f32⟩
  | .hbm, ⟨53, _⟩ => ⟨S_, .f32⟩
  | .hbm, ⟨54, _⟩ => ⟨S256, .f32⟩
  | .hbm, ⟨55, _⟩ => ⟨S16x2048x1, .i1⟩
  | .hbm, ⟨56, _⟩ => ⟨S_, .f32⟩
  | .hbm, ⟨57, _⟩ => ⟨S_, .f32⟩
  | .hbm, ⟨58, _⟩ => ⟨S16x2048x256, .i1⟩
  | .hbm, ⟨59, _⟩ => ⟨S16x2048x256, .f32⟩
  | .hbm, ⟨60, _⟩ => ⟨S16x2048x256, .f32⟩
  | .hbm, ⟨61, _⟩ => ⟨S16x2048x256, .f32⟩
  | .hbm, ⟨62, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_v36 : Ref sig .tc := ⟨.hbm, 61, rfl⟩
abbrev main_v37 : Ref sig .tc := ⟨.hbm, 62, rfl⟩

abbrev nD : Nat := 1
abbrev τ : Topo := Topo.v7x

variable {F : FTy → Type} [FloatOps F]
-- ==== Proof.StepsIdeal.lean ====
/-
  The idealised kernel's transfers, one chunk of 2048 rows at a time: what a chunk of a buffer is, what the two
  semaphore arrays' cells are, and one rule for issuing a chunk's copy and one for waiting for it.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffixV
public import Idealize.ShloMosaic.Lib.Transfers
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The counters the transfers' tokens live in. -/
abbrev EC : UEmb Counters (𝕄) := countersEmb (U := Pipeline.UD sig nD τ)

/-- The weakest precondition of a program of the kernel body on core `c`. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- Where chunk `b` starts. -/
def chOff (b : Fin 16) : Fin 2 → ℕ := ![2048 * b.val, 0]

/-- A chunk lies within the array. -/
theorem chOff_inb (b : Fin 16) : ∀ a, chOff b a + S2048x256.size a ≤ S32768x256.size a := by
  have := b.isLt
  intro a
  fin_cases a
  · show 2048 * b.val + 2048 ≤ 32768; omega
  · show 0 + 256 ≤ 256; omega

/-- Chunk `b` of a buffer of 32768 rows: 2048 rows of it. -/
abbrev ch {sp : Space} (M : Memref sig .tc sp S32768x256 .f32) (b : Fin 16) : Memref sig .tc sp S2048x256 .f32 :=
  M.slice (Rect.unit (s := S32768x256) (chOff b) S2048x256.size (chOff_inb b)) (fun _ => rfl)

/-- The chunk `b` of `M` held at the contents `X` of the whole buffer. -/
def chk (c : Dev nD) {sp : Space} (M : Memref sig .tc sp S32768x256 .f32) (b : Fin 16)
    (X : Buf (Elt F) (M.view.loc (c : Thread nD τ))) : sProp 𝕄 :=
  (M.view.loc (c : Thread nD τ)) ↦[(ch M b).view.set]{fullShare} X

/-- A chunk has a semaphore of its own. -/
theorem semOff_inb (b : Fin 16) : ∀ a, (![b.val] : Fin 1 → ℕ) a + S1.size a ≤ S16.size a := by
  have := b.isLt
  intro a
  fin_cases a
  show b.val + 1 ≤ 16; omega

/-- Semaphore `b` of an array of sixteen. -/
abbrev csem (A : DmaSems sig S16) (b : Fin 16) : DmaSem sig :=
  ((A.slice (Rect.unit (s := S16) ![b.val] S1.size (semOff_inb b))).squeeze S_ squeezes_S1_S_).sem

/-- A chunk's copy in flight from `A` to `B`: at the wait it gives the chunk of `B` at `Y` and that of `A` back. -/
def inFlight (c : Dev nD) {sp sp' : Space} (A : Memref sig .tc sp S32768x256 .f32) (B : Memref sig .tc sp' S32768x256 .f32)
    (b : Fin 16) (sm : DmaSem sig) (X : Buf (Elt F) (A.view.loc (c : Thread nD τ))) (Y : Buf (Elt F) (B.view.loc (c : Thread nD τ))) : sProp 𝕄 :=
  Transfers.Flight EC (c : Thread nD τ) (.dma sm) () (ch B b).view.dmaCredit iprop(chk c B b Y ∗ chk c A b X)

/-- Issuing a chunk's copy: the destination will hold `Y`, which the chunk's own view reads as the source's. -/
theorem issue (c : Dev nD) {sp sp' : Space} (A : Memref sig .tc sp S32768x256 .f32) (B : Memref sig .tc sp' S32768x256 .f32)
    (b : Fin 16) (sm : DmaSem sig) (X : Buf (Elt F) (A.view.loc (c : Thread nD τ))) (Y0 Y : Buf (Elt F) (B.view.loc (c : Thread nD τ)))
    (hXY : (ch B b).view.read (Elt F) Y = (ch A b).view.read (Elt F) X)
    {oA oB : Fin 2 → ℕ} (eA : oA = chOff b) (eB : oB = chOff b)
    {sem : DmaSem sig} (es : sem = sm)
    {hA : ∀ a, oA a + S2048x256.size a ≤ S32768x256.size a} {hB : ∀ a, oB a + S2048x256.size a ≤ S32768x256.size a}
    {sA : ∀ a, (Rect.unit (s := S32768x256) oA S2048x256.size hA).stride a = 1} {sB : ∀ a, (Rect.unit (s := S32768x256) oB S2048x256.size hB).stride a = 1}
    {hsrc : (A.slice (Rect.unit (s := S32768x256) oA S2048x256.size hA) sA).view.WordExact}
    {hdst : (B.slice (Rect.unit (s := S32768x256) oB S2048x256.size hB) sB).view.WordExact}
    {hsem : DmaTarget.Typed (nD := nD) (τ := τ) (p := .tc) sp (.dma sem) (.here (B.slice (Rect.unit (s := S32768x256) oB S2048x256.size hB) sB))}
    {Q : PUnit → sProp 𝕄} :
    iprop(chk c A b X ∗ chk c B b Y0 ∗ semVal ((c : Thread nD τ), SemLoc.dma sm) 0)
      ⊢ iprop((inFlight c A B b sm X Y -∗ Q ⟨⟩)
          -∗ WP c (Prog.lift (.enqueueDma (A.slice (Rect.unit (s := S32768x256) oA S2048x256.size hA) sA)
              (.here (B.slice (Rect.unit (s := S32768x256) oB S2048x256.size hB) sB)) (.dma sem) hsrc hdst hsem)) Q) := by
  subst eA eB es
  unfold chk
  iintro ⟨HA, HB, Hs⟩ HQ
  iapply (Transfers.wp_dmaLocal EC Variants.none (c : Thread nD τ) none (src := ch A b) (dst := ch B b) (Sd := (ch B b).view.set)
    (q := fullShare) (fs := X) (fd := Y0) ()
    (ch B b).view.dmaCredit rfl (View.dmaCredit_pos _ (by decide)) (Finset.Subset.refl _)) $$ [HA HB Hs]
  · isplitl [HA]; · iexact HA
    isplitl [HB]; · iexact HB
    iexact Hs
  iintro HF
  rw [wp_ret]
  imodintro
  iapply HQ
  unfold inFlight
  iapply (Transfers.Flight_mono EC (c : Thread nD τ) ?_) $$ HF
  unfold chk
  refine sep_mono (Entails.of_eq ?_) .rfl
  refine pointsTo_congr fun i hi => ?_
  refine (congrArg (fun w => (ch B b).view.write (Elt F) Y0 w Finset.univ i) hXY.symm).trans ?_
  rw [View.write_read_eq_piecewise, View.setOn_univ]
  exact Finset.piecewise_eq_of_mem _ _ _ hi

/-- What the core has waited for so far: the pipeline only asks that it owes nothing more. -/
def owing (c : Dev nD) : sProp 𝕄 := iprop(∃ W : Waits sig Unit, owes (c : Thread nD τ) 0 W)

/-- Waiting for a chunk's copy gives both chunks and the cell's counter back. -/
theorem await (c : Dev nD) {sp sp' : Space} (A : Memref sig .tc sp S32768x256 .f32) (B : Memref sig .tc sp' S32768x256 .f32)
    (b : Fin 16) (sm : DmaSem sig) (X : Buf (Elt F) (A.view.loc (c : Thread nD τ))) (Y : Buf (Elt F) (B.view.loc (c : Thread nD τ)))
    {oA oB : Fin 2 → ℕ} (eB : oB = chOff b)
    {sem : DmaSem sig} (es : sem = sm)
    {hA : ∀ a, oA a + S2048x256.size a ≤ S32768x256.size a} {hB : ∀ a, oB a + S2048x256.size a ≤ S32768x256.size a}
    {sA : ∀ a, (Rect.unit (s := S32768x256) oA S2048x256.size hA).stride a = 1} {sB : ∀ a, (Rect.unit (s := S32768x256) oB S2048x256.size hB).stride a = 1}
    {hsrc : (A.slice (Rect.unit (s := S32768x256) oA S2048x256.size hA) sA).view.WordExact}
    {hdst : (B.slice (Rect.unit (s := S32768x256) oB S2048x256.size hB) sB).view.WordExact}
    {Q : PUnit → sProp 𝕄} :
    iprop(inFlight c A B b sm X Y ∗ owing c)
      ⊢ iprop((iprop(chk c B b Y ∗ chk c A b X ∗ semVal ((c : Thread nD τ), SemLoc.dma sm) 0 ∗ owing c) -∗ Q ⟨⟩)
          -∗ WP c (Prog.lift (.waitDma2 sem (A.slice (Rect.unit (s := S32768x256) oA S2048x256.size hA) sA)
              (B.slice (Rect.unit (s := S32768x256) oB S2048x256.size hB) sB) hsrc hdst)) Q) := by
  subst eB es
  unfold inFlight owing
  iintro ⟨HF, ⟨%W, HO⟩⟩ HQ
  iapply (Transfers.wp_waitLocal EC Variants.none (c : Thread nD τ) none (W := W) ()
    (N := (ch B b).view.dmaCredit) rfl) $$ [HF HO]
  · isplitl [HF]; · iexact HF
    iexact HO
  iintro ⟨⟨HB, HA⟩, Hs, HO⟩
  rw [wp_ret]
  imodintro
  iapply HQ
  isplitl [HB]; · iexact HB
  isplitl [HA]; · iexact HA
  isplitl [Hs]; · iexact Hs
  iexists _; iexact HO

/-- A load of the block of four chunks, or of any part of what is held, at the contents held. -/
theorem loadR (c : Dev nD) {cs : CoreSpace} {s : Shape} {e : EltTy} (m : Memref sig .tc cs s e) {r : Rect s} {hl : m.view.LoadsAt r}
    {S : Finset (Idx ((m.access r).loc (c : Thread nD τ)))} {q : PosShare TreeShare} {f : Buf (Elt F) ((m.access r).loc (c : Thread nD τ))}
    (hS : (m.access r).set ⊆ S) {Q : (r.shape.Idx → Elt F e) → sProp 𝕄} :
    ((m.access r).loc (c : Thread nD τ) ↦[S]{q} f)
      ⊢ iprop((((m.access r).loc (c : Thread nD τ) ↦[S]{q} f) -∗ Q ((m.access r).read (Elt F) f))
        -∗ WP c (Prog.lift (.load m r hl)) Q) := by
  iintro H HQ
  iapply (wp_load_rect Variants.none (c : Thread nD τ) none Set.univ hS) $$ H
  iintro H
  rw [wp_ret]
  imodintro
  iapply HQ $$ H

/-- A store over all of a rectangle of what is held. -/
theorem storeR (c : Dev nD) {cs : CoreSpace} {s : Shape} {e : EltTy} (m : Memref sig .tc cs s e) {r : Rect s} {w : r.shape.Idx → Elt F e}
    {hx : (m.access r).Stores Finset.univ} {hm : Finset.univ = Finset.univ ∨ ∀ a, r.stride a = 1}
    {S : Finset (Idx ((m.access r).loc (c : Thread nD τ)))} {f : Buf (Elt F) ((m.access r).loc (c : Thread nD τ))}
    (hS : (m.access r).set ⊆ S) {Q : PUnit → sProp 𝕄} :
    ((m.access r).loc (c : Thread nD τ) ↦[S]{fullShare} f)
      ⊢ iprop((((m.access r).loc (c : Thread nD τ) ↦[S]{fullShare} ((m.access r).write (Elt F) f w Finset.univ)) -∗ Q ⟨⟩)
        -∗ WP c (Prog.lift (.store m r w Finset.univ hx hm)) Q) := by
  iintro H HQ
  iapply (wp_store Variants.none (c : Thread nD τ) none Set.univ (by rw [View.setOn_univ]; exact hS)) $$ H
  iintro H
  rw [wp_ret]
  imodintro
  iapply HQ $$ H

/-- The word an SMEM access of one element loads. -/
theorem loadW (c : Dev nD) {s : Shape} (m : Memref sig .tc .smem s .f32) {r : Rect s} {h1 : r.shape.numel = 1} {hp : (EltTy.f32).packing = 1}
    {S : Finset (Idx ((m.access r).loc (c : Thread nD τ)))} {q : PosShare TreeShare} {f : Buf (Elt F) ((m.access r).loc (c : Thread nD τ))}
    (hS : (m.access r).set ⊆ S) (v : Elt F .f32) (hv : (m.access r).read (Elt F) f = fun _ => v) {Q : Elt F .f32 → sProp 𝕄} :
    ((m.access r).loc (c : Thread nD τ) ↦[S]{q} f)
      ⊢ iprop((((m.access r).loc (c : Thread nD τ) ↦[S]{q} f) -∗ Q v) -∗ WP c (smemLoad m r h1 hp) Q) := by
  iintro H HQ
  unfold smemLoad
  iapply (wp_smemLoadElt Variants.none (c : Thread nD τ) none Set.univ hS) $$ H
  iintro H
  rw [wp_ret, hv]
  imodintro
  iapply HQ $$ H

/-- The same when nothing is known of the word. -/
theorem loadW' (c : Dev nD) {s : Shape} (m : Memref sig .tc .smem s .f32) {r : Rect s} {h1 : r.shape.numel = 1} {hp : (EltTy.f32).packing = 1}
    {S : Finset (Idx ((m.access r).loc (c : Thread nD τ)))} {q : PosShare TreeShare} {f : Buf (Elt F) ((m.access r).loc (c : Thread nD τ))}
    (hS : (m.access r).set ⊆ S) {Q : Elt F .f32 → sProp 𝕄} :
    ((m.access r).loc (c : Thread nD τ) ↦[S]{q} f)
      ⊢ iprop((∀ v, ((m.access r).loc (c : Thread nD τ) ↦[S]{q} f) -∗ Q v) -∗ WP c (smemLoad m r h1 hp) Q) := by
  iintro H HQ
  unfold smemLoad
  iapply (wp_smemLoadElt Variants.none (c : Thread nD τ) none Set.univ hS) $$ H
  iintro H
  rw [wp_ret]
  imodintro
  iapply HQ $$ H

/-! ## The buffers of the kernel, chunk by chunk -/

/-- The embeddings left in HBM, the result left in HBM and the on-chip copy of the embeddings. -/
abbrev M2 : Memref sig .tc .hbm S32768x256 .f32 := Memref.whole main_v0
abbrev M7 : Memref sig .tc .hbm S32768x256 .f32 := Memref.whole main_v6
abbrev M11 : Memref sig .tc .vmem S32768x256 .f32 := Memref.whole cc0_scratch3

/-- Chunk `k` of block `i`. -/
def idx (i k : Fin 4) : Fin 16 := ⟨4 * i.val + k.val, by omega⟩

/-- What holds of each of a block's four chunks. -/
def four (P : Fin 16 → sProp 𝕄) (i : Fin 4) : sProp 𝕄 :=
  iprop(P (idx i 0) ∗ P (idx i 1) ∗ P (idx i 2) ∗ P (idx i 3))

/-- Where block `i` starts. -/
def blkOff (i : Fin 4) : Fin 2 → ℕ := ![8192 * i.val, 0]

/-- A block lies within the array. -/
theorem blkOff_inb (i : Fin 4) : ∀ a, blkOff i a + S8192x256.size a ≤ S32768x256.size a := by
  have := i.isLt
  intro a
  fin_cases a
  · show 8192 * i.val + 8192 ≤ 32768; omega
  · show 0 + 256 ≤ 256; omega

/-- Block `i`: 8192 rows. -/
abbrev blkR (i : Fin 4) : Rect S32768x256 := Rect.unit (s := S32768x256) (blkOff i) S8192x256.size (blkOff_inb i)

/-- A chunk's rectangle. -/
abbrev chR (b : Fin 16) : Rect S32768x256 := Rect.unit (s := S32768x256) (chOff b) S2048x256.size (chOff_inb b)

/-- Two chunks share no row. -/
theorem chR_disjoint (b b' : Fin 16) (h : b ≠ b') : Disjoint (chR b).set (chR b').set :=
  Ring.lead_disjoint (s := S32768x256) (NB := 16) 0 2048 chOff S2048x256.size chOff_inb (fun b => rfl) rfl b b' h

/-- The sixteen chunks are the whole array. -/
theorem chR_cover : Finset.univ.biUnion (fun b => (chR b).set) = Finset.univ :=
  Ring.lead_cover (s := S32768x256) (NB := 16) 0 2048 chOff S2048x256.size chOff_inb (fun b => rfl)
    (fun b a ha => by fin_cases a; · exact absurd rfl ha
                      · rfl) rfl (fun a ha => by fin_cases a; · exact absurd rfl ha
                                                 · rfl) rfl

/-- The four chunks of a block are the block. -/
theorem chR_block (i : Fin 4) : Finset.univ.biUnion (fun k => (chR (idx i k)).set) = (blkR i).set := by
  ext x
  simp only [Finset.mem_biUnion, Finset.mem_univ, true_and, Rect.mem_set_unit]
  constructor
  · rintro ⟨k, hk⟩ a
    have h0 := hk 0
    have h1 := hk 1
    have := k.isLt
    fin_cases a
    · change 2048 * (4 * i.val + k.val) ≤ (x 0).val ∧ (x 0).val < 2048 * (4 * i.val + k.val) + 2048 at h0
      show 8192 * i.val ≤ (x 0).val ∧ (x 0).val < 8192 * i.val + 8192
      omega
    · exact h1
  · intro h
    have h0 := h 0
    change 8192 * i.val ≤ (x 0).val ∧ (x 0).val < 8192 * i.val + 8192 at h0
    refine ⟨⟨((x 0).val - 8192 * i.val) / 2048, by omega⟩, fun a => ?_⟩
    fin_cases a
    · show 2048 * (4 * i.val + ((x 0).val - 8192 * i.val) / 2048) ≤ (x 0).val
        ∧ (x 0).val < 2048 * (4 * i.val + ((x 0).val - 8192 * i.val) / 2048) + 2048
      omega
    · exact h 1

/-- The four chunks of a block have different numbers. -/
theorem idx_inj (i : Fin 4) (k k' : Fin 4) (h : k ≠ k') : idx i k ≠ idx i k' := by
  intro e
  apply h
  have := congrArg Fin.val e
  simp only [idx] at this
  exact Fin.ext (by omega)

/-- A product over four is its four factors. -/
theorem bigSep_four (P : Fin 4 → sProp 𝕄) :
    bigSep Finset.univ P = iprop(P 0 ∗ P 1 ∗ P 2 ∗ P 3) := by
  rw [BI.bigSep_univ_eq_bigSepL [0, 1, 2, 3] (by decide) (by decide)]
  rfl

/-- A block held at one contents is its four chunks held at that contents. -/
theorem blk_eq (c : Dev nD) (i : Fin 4) (X : Buf (Elt F) (M11.view.loc (c : Thread nD τ))) :
    (M11.view.loc (c : Thread nD τ) ↦[(M11.access (blkR i)).set]{fullShare} X : sProp 𝕄)
      = four (fun b => chk c M11 b X) i := by
  unfold four chk
  rw [Ring.pointsTo_sub_blocks (I := fun k : Fin 4 => (ch M11 (idx i k)).view.set) (fun k k' h => by
      show Disjoint (ch M11 (idx i k)).view.set (ch M11 (idx i k')).view.set
      rw [show (ch M11 (idx i k)).view.set = (chR (idx i k)).set from View.set_slice_whole _ _,
        show (ch M11 (idx i k')).view.set = (chR (idx i k')).set from View.set_slice_whole _ _]
      exact chR_disjoint _ _ (idx_inj i k k' h)) _ (by
      rw [show (M11.access (blkR i)).set = (blkR i).set from View.set_slice_whole _ _, ← chR_block i]
      exact congrArg _ (funext fun k => View.set_slice_whole _ _))]
  exact bigSep_four _

end Cert.KernelIdeal.Hand

end
-- ==== Proof.BodyIdeal.lean ====
/-
  The idealised kernel's body, part by part: each part run from what it is given to what it leaves.
-/
module

public import proofs.«01_k».proof.Proof.StepsIdeal
public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffixV
public import Idealize.ShloMosaic.Lib.Transfers
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD)

/-- The contents of one of the three buffers of 32768 rows. -/
abbrev Big (F : FTy → Type) : Type := S32768x256.Idx → Elt F .f32

/-- Chunk `b`'s cells of the two semaphore arrays, their counters at zero. -/
def s13 (b : Fin 16) : sProp 𝕄 := semVal ((c : Thread nD τ), SemLoc.dma (csem cc0_scratch5 b)) 0
def s14 (b : Fin 16) : sProp 𝕄 := semVal ((c : Thread nD τ), SemLoc.dma (csem cc0_scratch6 b)) 0

/-- Before chunk `b`'s copy in: the embeddings in HBM, the on-chip chunk at what it holds, the cell. -/
def pre (E E0 : Big F) (b : Fin 16) : sProp 𝕄 := iprop(chk c M2 b E ∗ chk c M11 b E0 ∗ s13 c b)

/-- Chunk `b`'s copy in, in flight. -/
def inF (E : Big F) (b : Fin 16) : sProp 𝕄 := inFlight c M2 M11 b (csem cc0_scratch5 b) E E

/-- After it: the on-chip chunk holds the embeddings. -/
def land (E : Big F) (b : Fin 16) : sProp 𝕄 := iprop(chk c M11 b E ∗ chk c M2 b E ∗ s13 c b)

/-- Before chunk `b`'s copy out: the result's chunk at what it held, the cell. -/
def preO (V6 : Big F) (b : Fin 16) : sProp 𝕄 := iprop(chk c M7 b V6 ∗ s14 c b)

/-- Chunk `b`'s copy out, in flight. -/
def outF (O : Big F) (b : Fin 16) : sProp 𝕄 := inFlight c M11 M7 b (csem cc0_scratch6 b) O O

/-- After it: the result's chunk holds the on-chip one. -/
def landO (O : Big F) (b : Fin 16) : sProp 𝕄 := iprop(chk c M7 b O ∗ chk c M11 b O ∗ s14 c b)

/-- One copy in issued. -/
theorem issueIn (E E0 : Big F) (b : Fin 16)
    {oA oB : Fin 2 → ℕ} (eA : oA = chOff b) (eB : oB = chOff b)
    {sem : DmaSem sig} (es : sem = csem cc0_scratch5 b)
    {hA : ∀ a, oA a + S2048x256.size a ≤ S32768x256.size a} {hB : ∀ a, oB a + S2048x256.size a ≤ S32768x256.size a}
    {sA : ∀ a, (Rect.unit (s := S32768x256) oA S2048x256.size hA).stride a = 1} {sB : ∀ a, (Rect.unit (s := S32768x256) oB S2048x256.size hB).stride a = 1}
    {hsrc : (M2.slice (Rect.unit (s := S32768x256) oA S2048x256.size hA) sA).view.WordExact}
    {hdst : (M11.slice (Rect.unit (s := S32768x256) oB S2048x256.size hB) sB).view.WordExact}
    {hsem : DmaTarget.Typed (nD := nD) (τ := τ) (p := .tc) .hbm (.dma sem) (.here (M11.slice (Rect.unit (s := S32768x256) oB S2048x256.size hB) sB))}
    {Q : PUnit → sProp 𝕄} :
    pre c E E0 b
      ⊢ iprop((inF c E b -∗ Q ⟨⟩)
          -∗ WP c (Prog.lift (.enqueueDma (M2.slice (Rect.unit (s := S32768x256) oA S2048x256.size hA) sA)
              (.here (M11.slice (Rect.unit (s := S32768x256) oB S2048x256.size hB) sB)) (.dma sem) hsrc hdst hsem)) Q) :=
  issue c M2 M11 b (csem cc0_scratch5 b) E E0 E rfl eA eB es

/-- One copy out issued. -/
theorem issueOut (O V6 : Big F) (b : Fin 16)
    {oA oB : Fin 2 → ℕ} (eA : oA = chOff b) (eB : oB = chOff b)
    {sem : DmaSem sig} (es : sem = csem cc0_scratch6 b)
    {hA : ∀ a, oA a + S2048x256.size a ≤ S32768x256.size a} {hB : ∀ a, oB a + S2048x256.size a ≤ S32768x256.size a}
    {sA : ∀ a, (Rect.unit (s := S32768x256) oA S2048x256.size hA).stride a = 1} {sB : ∀ a, (Rect.unit (s := S32768x256) oB S2048x256.size hB).stride a = 1}
    {hsrc : (M11.slice (Rect.unit (s := S32768x256) oA S2048x256.size hA) sA).view.WordExact}
    {hdst : (M7.slice (Rect.unit (s := S32768x256) oB S2048x256.size hB) sB).view.WordExact}
    {hsem : DmaTarget.Typed (nD := nD) (τ := τ) (p := .tc) .vmem (.dma sem) (.here (M7.slice (Rect.unit (s := S32768x256) oB S2048x256.size hB) sB))}
    {Q : PUnit → sProp 𝕄} :
    iprop(chk c M11 b O ∗ preO c V6 b)
      ⊢ iprop((outF c O b -∗ Q ⟨⟩)
          -∗ WP c (Prog.lift (.enqueueDma (M11.slice (Rect.unit (s := S32768x256) oA S2048x256.size hA) sA)
              (.here (M7.slice (Rect.unit (s := S32768x256) oB S2048x256.size hB) sB)) (.dma sem) hsrc hdst hsem)) Q) :=
  issue c M11 M7 b (csem cc0_scratch6 b) O V6 O rfl eA eB es

/-- One copy in waited for. -/
theorem awaitIn (E : Big F) (b : Fin 16)
    {oA oB : Fin 2 → ℕ} (eB : oB = chOff b)
    {sem : DmaSem sig} (es : sem = csem cc0_scratch5 b)
    {hA : ∀ a, oA a + S2048x256.size a ≤ S32768x256.size a} {hB : ∀ a, oB a + S2048x256.size a ≤ S32768x256.size a}
    {sA : ∀ a, (Rect.unit (s := S32768x256) oA S2048x256.size hA).stride a = 1} {sB : ∀ a, (Rect.unit (s := S32768x256) oB S2048x256.size hB).stride a = 1}
    {hsrc : (M2.slice (Rect.unit (s := S32768x256) oA S2048x256.size hA) sA).view.WordExact}
    {hdst : (M11.slice (Rect.unit (s := S32768x256) oB S2048x256.size hB) sB).view.WordExact}
    {Q : PUnit → sProp 𝕄} :
    iprop(inF c E b ∗ owing c)
      ⊢ iprop((iprop(land c E b ∗ owing c) -∗ Q ⟨⟩)
          -∗ WP c (Prog.lift (.waitDma2 sem (M2.slice (Rect.unit (s := S32768x256) oA S2048x256.size hA) sA)
              (M11.slice (Rect.unit (s := S32768x256) oB S2048x256.size hB) sB) hsrc hdst)) Q) := by
  unfold inF
  iintro H HQ
  iapply (await c M2 M11 b (csem cc0_scratch5 b) E E (oA := oA) eB es) $$ H
  iintro ⟨H1, H2, H3, HO⟩
  iapply HQ
  isplitr [HO]
  · unfold land s13
    isplitl [H1]; · iexact H1
    isplitl [H2]; · iexact H2
    iexact H3
  iexact HO

/-- One copy out waited for. -/
theorem awaitOut (O : Big F) (b : Fin 16)
    {oA oB : Fin 2 → ℕ} (eB : oB = chOff b)
    {sem : DmaSem sig} (es : sem = csem cc0_scratch6 b)
    {hA : ∀ a, oA a + S2048x256.size a ≤ S32768x256.size a} {hB : ∀ a, oB a + S2048x256.size a ≤ S32768x256.size a}
    {sA : ∀ a, (Rect.unit (s := S32768x256) oA S2048x256.size hA).stride a = 1} {sB : ∀ a, (Rect.unit (s := S32768x256) oB S2048x256.size hB).stride a = 1}
    {hsrc : (M11.slice (Rect.unit (s := S32768x256) oA S2048x256.size hA) sA).view.WordExact}
    {hdst : (M7.slice (Rect.unit (s := S32768x256) oB S2048x256.size hB) sB).view.WordExact}
    {Q : PUnit → sProp 𝕄} :
    iprop(outF c O b ∗ owing c)
      ⊢ iprop((iprop(landO c O b ∗ owing c) -∗ Q ⟨⟩)
          -∗ WP c (Prog.lift (.waitDma2 sem (M11.slice (Rect.unit (s := S32768x256) oA S2048x256.size hA) sA)
              (M7.slice (Rect.unit (s := S32768x256) oB S2048x256.size hB) sB) hsrc hdst)) Q) := by
  unfold outF
  iintro H HQ
  iapply (await c M11 M7 b (csem cc0_scratch6 b) O O (oA := oA) eB es) $$ H
  iintro ⟨H1, H2, H3, HO⟩
  iapply HQ
  isplitr [HO]
  · unfold landO s14
    isplitl [H1]; · iexact H1
    isplitl [H2]; · iexact H2
    iexact H3
  iexact HO

/-! ## A block loaded and stored -/

/-- What block `b` reads of the contents `X`. -/
def blkRead (X : Big F) (b : Fin 4) : S8192x256.Idx → Elt F .f32 := (M11.access (blkR b)).read (Elt F) X

/-- A block loaded. -/
theorem loadBlk (X : Big F) (b : Fin 4) {off : Fin 2 → ℕ} (e : off = blkOff b)
    {inb : ∀ a, off a + S8192x256.size a ≤ S32768x256.size a} {hl} {Q : (S8192x256.Idx → Elt F .f32) → sProp 𝕄} :
    four (fun b => chk c M11 b X) b
      ⊢ iprop((four (fun b => chk c M11 b X) b -∗ Q (blkRead X b))
        -∗ WP c (Prog.lift (.load M11 (Rect.unit (s := S32768x256) off S8192x256.size inb).toLoadRect hl)) Q) := by
  subst e
  rw [← blk_eq]
  exact loadR c M11 (r := blkR b) (Finset.Subset.refl _)

/-- A block stored: afterwards it holds any contents that read as what was stored. -/
theorem storeBlk (X Y : Big F) (b : Fin 4) {w : S8192x256.Idx → Elt F .f32} (hw : blkRead Y b = w) {off : Fin 2 → ℕ} (e : off = blkOff b)
    {inb : ∀ a, off a + S8192x256.size a ≤ S32768x256.size a} {hx hm} {Q : PUnit → sProp 𝕄} :
    four (fun b => chk c M11 b X) b
      ⊢ iprop((four (fun b => chk c M11 b Y) b -∗ Q ⟨⟩)
        -∗ WP c (Prog.lift (.store M11 (Rect.unit (s := S32768x256) off S8192x256.size inb) w Finset.univ hx hm)) Q) := by
  subst e hw
  rw [← blk_eq, ← blk_eq]
  iintro H HQ
  iapply (storeR c M11 (r := blkR b) (Finset.Subset.refl _)) $$ H
  iintro H
  iapply HQ
  iapply (Entails.of_eq (pointsTo_congr fun x hx => ?_)) $$ H
  unfold blkRead
  rw [View.write_read_eq_piecewise, View.setOn_univ]
  exact Finset.piecewise_eq_of_mem _ _ _ hx

/-- A whole window loaded. -/
theorem loadOwn {s : Shape} {e : EltTy} (a : Memref sig .tc .vmem s e) (X : s.Idx → Elt F e) {off : Fin s.rank → ℕ}
    {inb : ∀ a, off a + s.size a ≤ s.size a} {hl} {Q : (s.Idx → Elt F e) → sProp 𝕄} :
    (owns (c : Thread nD τ) a fullShare X : sProp 𝕄)
      ⊢ iprop(((owns (c : Thread nD τ) a fullShare X : sProp 𝕄) -∗ Q X)
        -∗ WP c (Prog.lift (.load a (Rect.unit (s := s) off s.size inb).toLoadRect hl)) Q) := by
  unfold owns
  iintro ⟨%f, %hf, H⟩ HQ
  iapply (loadR c a (r := Rect.unit (s := s) off s.size inb) (View.set_slice_subset _ _)) $$ H
  iintro H
  rw [show (a.access (Rect.unit (s := s) off s.size inb)).read (Elt F) f = X from (View.readAt_full a.view f inb).trans hf]
  iapply HQ
  iexists f
  isplitr; · ipureintro; exact hf
  iexact H

/-! ## The small scratch buffers, row by row -/

abbrev M8 : Memref sig .tc .smem S4x1 .f32 := Memref.whole cc0_scratch0
abbrev M9 : Memref sig .tc .smem S4x1 .f32 := Memref.whole cc0_scratch1
abbrev M10 : Memref sig .tc .vmem S4x256 .f32 := Memref.whole cc0_scratch2
abbrev M12 : Memref sig .tc .vmem S1x256 .f32 := Memref.whole cc0_scratch4

/-- A word's place lies within the scalar memory. -/
theorem rowW_inb (k : Fin 4) : ∀ a, (![k.val, 0] : Fin 2 → ℕ) a + S1x1.size a ≤ S4x1.size a := by
  have := k.isLt
  intro a
  fin_cases a
  · show k.val + 1 ≤ 4; omega
  · show 0 + 1 ≤ 1; omega

/-- A row's place lies within the row scratch. -/
theorem rowV_inb (k : Fin 4) : ∀ a, (![k.val, 0] : Fin 2 → ℕ) a + S1x256.size a ≤ S4x256.size a := by
  have := k.isLt
  intro a
  fin_cases a
  · show k.val + 1 ≤ 4; omega
  · show 0 + 256 ≤ 256; omega

abbrev rowW (k : Fin 4) : Rect S4x1 := Rect.unit (s := S4x1) ![k.val, 0] S1x1.size (rowW_inb k)
abbrev rowV (k : Fin 4) : Rect S4x256 := Rect.unit (s := S4x256) ![k.val, 0] S1x256.size (rowV_inb k)

/-- The words of a buffer of four below `n` are `v`'s. -/
def wordsAt (M : Memref sig .tc .smem S4x1 .f32) (n : ℕ) (v : Fin 4 → Elt F .f32) : sProp 𝕄 :=
  iprop(∃ f, ⌜∀ k : Fin 4, k.val < n → (M.access (rowW k)).read (Elt F) f = fun _ => v k⌝ ∗ (M.view.loc (c : Thread nD τ) ↦{fullShare} f))

/-- The rows below `n` of the buffer of four rows are `v`'s. -/
def rowsAt (n : ℕ) (v : Fin 4 → S1x256.Idx → Elt F .f32) : sProp 𝕄 :=
  iprop(∃ f, ⌜∀ k : Fin 4, k.val < n → (M10.access (rowV k)).read (Elt F) f = v k⌝ ∗ (M10.view.loc (c : Thread nD τ) ↦{fullShare} f))

/-- The pooled row. -/
def poolAt (v : S1x256.Idx → Elt F .f32) : sProp 𝕄 :=
  iprop(∃ f, ⌜M12.view.read (Elt F) f = v⌝ ∗ (M12.view.loc (c : Thread nD τ) ↦{fullShare} f))

/-- The pooled row's buffer at contents nothing is known of. -/
def poolAny : sProp 𝕄 := iprop(∃ f, (M12.view.loc (c : Thread nD τ) ↦{fullShare} f))

/-- A load of a word that was written gives it. -/
theorem readWord (M : Memref sig .tc .smem S4x1 .f32) (n : ℕ) (v : Fin 4 → Elt F .f32) (k : Fin 4) (hk : k.val < n)
    {off : Fin 2 → ℕ} (e : off = ![k.val, 0]) {inb : ∀ a, off a + S1x1.size a ≤ S4x1.size a} {h1 hp} {Q : Elt F .f32 → sProp 𝕄} :
    wordsAt c M n v ⊢ iprop((wordsAt c M n v -∗ Q (v k))
      -∗ WP c (smemLoad M (Rect.unit (s := S4x1) off S1x1.size inb) h1 hp) Q) := by
  subst e
  unfold wordsAt
  iintro ⟨%f, %hf, H⟩ HQ
  iapply (loadW c M (r := rowW k) (Finset.subset_univ _) (v k) (hf k hk)) $$ H
  iintro H
  iapply HQ
  iexists f
  isplitr; · ipureintro; exact hf
  iexact H

/-- A load of a word that may not have been written gives some value. -/
theorem readWord' (M : Memref sig .tc .smem S4x1 .f32) (n : ℕ) (v : Fin 4 → Elt F .f32)
    {off : Fin 2 → ℕ} {inb : ∀ a, off a + S1x1.size a ≤ S4x1.size a} {h1 hp} {Q : Elt F .f32 → sProp 𝕄} :
    wordsAt c M n v ⊢ iprop((∀ x, wordsAt c M n v -∗ Q x)
      -∗ WP c (smemLoad M (Rect.unit (s := S4x1) off S1x1.size inb) h1 hp) Q) := by
  unfold wordsAt
  iintro ⟨%f, %hf, H⟩ HQ
  iapply (loadW' c M (r := Rect.unit (s := S4x1) off S1x1.size inb) (Finset.subset_univ _)) $$ H
  iintro %x H
  iapply HQ
  iexists f
  isplitr; · ipureintro; exact hf
  iexact H

/-- Two words have different places. -/
theorem rowW_disjoint (k k' : Fin 4) (h : k ≠ k') : Disjoint (rowW k).set (rowW k').set :=
  Rect.unit_disjoint (0 : Fin 2) (by
    show k.val + 1 ≤ k'.val ∨ k'.val + 1 ≤ k.val
    have : k.val ≠ k'.val := fun e => h (Fin.ext e)
    omega)

/-- Two rows have different places. -/
theorem rowV_disjoint (k k' : Fin 4) (h : k ≠ k') : Disjoint (rowV k).set (rowV k').set :=
  Rect.unit_disjoint (0 : Fin 2) (by
    show k.val + 1 ≤ k'.val ∨ k'.val + 1 ≤ k.val
    have : k.val ≠ k'.val := fun e => h (Fin.ext e)
    omega)

/-- A store of the next word leaves one more written. -/
theorem writeWord (M : Memref sig .tc .smem S4x1 .f32) (v : Fin 4 → Elt F .f32) (k : Fin 4) {w : S1x1.Idx → Elt F .f32}
    (hw : w = fun _ => v k) {off : Fin 2 → ℕ} (e : off = ![k.val, 0]) {inb : ∀ a, off a + S1x1.size a ≤ S4x1.size a} {hx hm} {Q : PUnit → sProp 𝕄} :
    wordsAt c M k.val v ⊢ iprop((wordsAt c M (k.val + 1) v -∗ Q ⟨⟩)
      -∗ WP c (Prog.lift (.store M (Rect.unit (s := S4x1) off S1x1.size inb) w Finset.univ hx hm)) Q) := by
  subst e hw
  unfold wordsAt
  iintro ⟨%f, %hf, H⟩ HQ
  iapply (storeR c M (r := rowW k) (Finset.subset_univ _)) $$ H
  iintro H
  iapply HQ
  iexists _
  isplitr
  swap; · iexact H
  ipureintro
  intro k' hk'
  rcases Nat.lt_or_ge k'.val k.val with h | h
  · refine (View.read_slice_write_slice_of_disjoint (v := M.view) (rowW k') (rowW k) f _ Finset.univ ?_).trans (hf k' h)
    rw [View.setOn_univ, View.set_slice, View.set_slice, Finset.disjoint_map]
    exact rowW_disjoint _ _ (fun e => by subst e; exact absurd h (lt_irrefl _))
  · obtain rfl : k' = k := Fin.ext (by omega)
    exact View.read_write_univ _ _

/-- A load of a row that was written gives it. -/
theorem readRow (n : ℕ) (v : Fin 4 → S1x256.Idx → Elt F .f32) (k : Fin 4) (hk : k.val < n)
    {off : Fin 2 → ℕ} (e : off = ![k.val, 0]) {inb : ∀ a, off a + S1x256.size a ≤ S4x256.size a} {hl} {Q : (S1x256.Idx → Elt F .f32) → sProp 𝕄} :
    rowsAt c n v ⊢ iprop((rowsAt c n v -∗ Q (v k))
      -∗ WP c (Prog.lift (.load M10 (Rect.unit (s := S4x256) off S1x256.size inb).toLoadRect hl)) Q) := by
  subst e
  unfold rowsAt
  iintro ⟨%f, %hf, H⟩ HQ
  iapply (loadR c M10 (r := rowV k) (Finset.subset_univ _)) $$ H
  iintro H
  rw [hf k hk]
  iapply HQ
  iexists f
  isplitr; · ipureintro; exact hf
  iexact H

/-- A load of a row that may not have been written gives some value. -/
theorem readRow' (n : ℕ) (v : Fin 4 → S1x256.Idx → Elt F .f32)
    {off : Fin 2 → ℕ} {inb : ∀ a, off a + S1x256.size a ≤ S4x256.size a} {hl} {Q : (S1x256.Idx → Elt F .f32) → sProp 𝕄} :
    rowsAt c n v ⊢ iprop((∀ x, rowsAt c n v -∗ Q x)
      -∗ WP c (Prog.lift (.load M10 (Rect.unit (s := S4x256) off S1x256.size inb).toLoadRect hl)) Q) := by
  unfold rowsAt
  iintro ⟨%f, %hf, H⟩ HQ
  iapply (loadR c M10 (r := Rect.unit (s := S4x256) off S1x256.size inb) (Finset.subset_univ _)) $$ H
  iintro H
  iapply HQ
  iexists f
  isplitr; · ipureintro; exact hf
  iexact H

/-- A store of the next row leaves one more written. -/
theorem writeRow (v : Fin 4 → S1x256.Idx → Elt F .f32) (k : Fin 4) {w : S1x256.Idx → Elt F .f32}
    (hw : w = v k) {off : Fin 2 → ℕ} (e : off = ![k.val, 0]) {inb : ∀ a, off a + S1x256.size a ≤ S4x256.size a} {hx hm} {Q : PUnit → sProp 𝕄} :
    rowsAt c k.val v ⊢ iprop((rowsAt c (k.val + 1) v -∗ Q ⟨⟩)
      -∗ WP c (Prog.lift (.store M10 (Rect.unit (s := S4x256) off S1x256.size inb) w Finset.univ hx hm)) Q) := by
  subst e hw
  unfold rowsAt
  iintro ⟨%f, %hf, H⟩ HQ
  iapply (storeR c M10 (r := rowV k) (Finset.subset_univ _)) $$ H
  iintro H
  iapply HQ
  iexists _
  isplitr
  swap; · iexact H
  ipureintro
  intro k' hk'
  rcases Nat.lt_or_ge k'.val k.val with h | h
  · refine (View.read_slice_write_slice_of_disjoint (v := M10.view) (rowV k') (rowV k) f _ Finset.univ ?_).trans (hf k' h)
    rw [View.setOn_univ, View.set_slice, View.set_slice, Finset.disjoint_map]
    exact rowV_disjoint _ _ (fun e => by subst e; exact absurd h (lt_irrefl _))
  · obtain rfl : k' = k := Fin.ext (by omega)
    exact View.read_write_univ _ _

/-- A load of the pooled row gives it. -/
theorem readPool (v : S1x256.Idx → Elt F .f32)
    {off : Fin 2 → ℕ} {inb : ∀ a, off a + S1x256.size a ≤ S1x256.size a} {hl} {Q : (S1x256.Idx → Elt F .f32) → sProp 𝕄} :
    poolAt c v ⊢ iprop((poolAt c v -∗ Q v)
      -∗ WP c (Prog.lift (.load M12 (Rect.unit (s := S1x256) off S1x256.size inb).toLoadRect hl)) Q) := by
  unfold poolAt
  iintro ⟨%f, %hf, H⟩ HQ
  iapply (loadR c M12 (r := Rect.unit (s := S1x256) off S1x256.size inb) (Finset.subset_univ _)) $$ H
  iintro H
  rw [show (M12.access (Rect.unit (s := S1x256) off S1x256.size inb)).read (Elt F) f = v from (View.readAt_full M12.view f inb).trans hf]
  iapply HQ
  iexists f
  isplitr; · ipureintro; exact hf
  iexact H

/-- A load of the pooled row before it is written gives some value. -/
theorem readPool' {off : Fin 2 → ℕ} {inb : ∀ a, off a + S1x256.size a ≤ S1x256.size a} {hl} {Q : (S1x256.Idx → Elt F .f32) → sProp 𝕄} :
    poolAny (F := F) c ⊢ iprop((∀ x, poolAny (F := F) c -∗ Q x)
      -∗ WP c (Prog.lift (.load M12 (Rect.unit (s := S1x256) off S1x256.size inb).toLoadRect hl)) Q) := by
  unfold poolAny
  iintro ⟨%f, H⟩ HQ
  iapply (loadR c M12 (r := Rect.unit (s := S1x256) off S1x256.size inb) (Finset.subset_univ _)) $$ H
  iintro H
  iapply HQ
  iexists f
  iexact H

/-- A store of the pooled row leaves it there. -/
theorem writePool (v : S1x256.Idx → Elt F .f32) {off : Fin 2 → ℕ} (e : off = fun _ => 0)
    {inb : ∀ a, off a + S1x256.size a ≤ S1x256.size a} {hx hm} {Q : PUnit → sProp 𝕄} :
    poolAny (F := F) c ⊢ iprop((poolAt c v -∗ Q ⟨⟩)
      -∗ WP c (Prog.lift (.store M12 (Rect.unit (s := S1x256) off S1x256.size inb) v Finset.univ hx hm)) Q) := by
  unfold poolAny poolAt
  iintro ⟨%f, H⟩ HQ
  iapply (storeR c M12 (r := Rect.unit (s := S1x256) off S1x256.size inb) (Finset.subset_univ _)) $$ H
  iintro H
  iapply HQ
  iexists _
  isplitr
  swap; · iexact H
  ipureintro
  exact (View.readAt_full M12.view _ inb).symm.trans (View.read_write_univ (v := M12.access (Rect.unit (s := S1x256) off S1x256.size inb)) _ _)

/-! ## The program's offsets in closed form -/

/-- The semaphore that a copy in waits for is its chunk's. -/
theorem off1_sem (i : grid0.Coords) (b k : Fin 4) (hi : (i 1).val = b.val) {inb} :
    ((cc0_scratch5.slice (Rect.unit (s := S16) (k0_off1 i (BitVec.ofNat 32 k.val)) S1.size inb)).squeeze S_ squeezes_S1_S_).sem
      = csem cc0_scratch5 (idx b k) := by
  unfold csem
  rw [SemArray.slice_unit_congr cc0_scratch5 (show k0_off1 i (BitVec.ofNat 32 k.val) = ![(idx b k).val] by
    rw [k0_off1_eq, hi]; rfl) inb (semOff_inb _)]

/-- The semaphore that a copy out signals is its chunk's. -/
theorem off7_sem (i : grid0.Coords) (b k : Fin 4) (hi : (i 1).val = b.val) {inb} :
    ((cc0_scratch6.slice (Rect.unit (s := S16) (k0_off7 i (BitVec.ofNat 32 k.val)) S1.size inb)).squeeze S_ squeezes_S1_S_).sem
      = csem cc0_scratch6 (idx b k) := by
  unfold csem
  rw [SemArray.slice_unit_congr cc0_scratch6 (show k0_off7 i (BitVec.ofNat 32 k.val) = ![(idx b k).val] by
    rw [k0_off7_eq, hi]; rfl) inb (semOff_inb _)]

/-- The rows of a copy in are its chunk. -/
theorem off2_ch (i : grid0.Coords) (b k : Fin 4) (hi : (i 1).val = b.val) :
    k0_off2 i (BitVec.ofNat 32 (2048 * k.val)) = chOff (idx b k) := by
  rw [k0_off2_eq, hi]
  unfold chOff idx
  rw [show 8192 * b.val + 2048 * k.val = 2048 * (4 * b.val + k.val) by omega]

/-- The rows of a copy out are its chunk. -/
theorem off8_ch (i : grid0.Coords) (b k : Fin 4) (hi : (i 1).val = b.val) :
    k0_off8 i (BitVec.ofNat 32 (2048 * k.val)) = chOff (idx b k) := by
  rw [k0_off8_eq, hi]
  unfold chOff idx
  rw [show 8192 * b.val + 2048 * k.val = 2048 * (4 * b.val + k.val) by omega]

/-! ## The parts -/

variable (i : grid0.Coords) (a3 : Memref sig .tc .vmem S8192x1 .i32) (h3 : a3.IsWhole) (a4 : Memref sig .tc .vmem S256x128 .bf16)
  (h4 : a4.IsWhole) (a5 : Memref sig .tc .vmem S1x128 .f32) (h5 : a5.IsWhole) (a6 : Memref sig .tc .vmem S128x1 .f32) (h6 : a6.IsWhole)

/-- Six copies in issued. -/
theorem part1_run (E E0 : Big F) (Q : PUnit → sProp 𝕄) :
    iprop(pre c E E0 0 ∗ pre c E E0 1 ∗ pre c E E0 2 ∗ pre c E E0 3 ∗ pre c E E0 4 ∗ pre c E E0 5)
      ⊢ iprop((iprop(inF c E 0 ∗ inF c E 1 ∗ inF c E 2 ∗ inF c E 3 ∗ inF c E 4 ∗ inF c E 5) -∗ Q ⟨⟩)
        -∗ WP c (k0_part1 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [k0_part1_eq_skeleton]
  unfold k0_part1_skel
  dsimp only
  simp only [wp_bind]
  iintro ⟨H0, H1, H2, H3, H4, H5⟩ HQ
  iapply (issueIn c E E0 0 rfl rfl rfl) $$ H0
  iintro H0
  iapply (issueIn c E E0 1 rfl rfl rfl) $$ H1
  iintro H1
  iapply (issueIn c E E0 2 rfl rfl rfl) $$ H2
  iintro H2
  iapply (issueIn c E E0 3 rfl rfl rfl) $$ H3
  iintro H3
  iapply (issueIn c E E0 4 rfl rfl rfl) $$ H4
  iintro H4
  iapply (issueIn c E E0 5 rfl rfl rfl) $$ H5
  iintro H5
  rw [wp_pure]
  imodintro
  iapply HQ
  isplitl [H0]; · iexact H0
  isplitl [H1]; · iexact H1
  isplitl [H2]; · iexact H2
  isplitl [H3]; · iexact H3
  isplitl [H4]; · iexact H4
  iexact H5

/-- Six copies in issued. -/
theorem part2_run (E E0 : Big F) (Q : PUnit → sProp 𝕄) :
    iprop(pre c E E0 6 ∗ pre c E E0 7 ∗ pre c E E0 8 ∗ pre c E E0 9 ∗ pre c E E0 10 ∗ pre c E E0 11)
      ⊢ iprop((iprop(inF c E 6 ∗ inF c E 7 ∗ inF c E 8 ∗ inF c E 9 ∗ inF c E 10 ∗ inF c E 11) -∗ Q ⟨⟩)
        -∗ WP c (k0_part2 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [k0_part2_eq_skeleton]
  unfold k0_part2_skel
  dsimp only
  simp only [wp_bind]
  iintro ⟨H6, H7, H8, H9, H10, H11⟩ HQ
  iapply (issueIn c E E0 6 rfl rfl rfl) $$ H6
  iintro H6
  iapply (issueIn c E E0 7 rfl rfl rfl) $$ H7
  iintro H7
  iapply (issueIn c E E0 8 rfl rfl rfl) $$ H8
  iintro H8
  iapply (issueIn c E E0 9 rfl rfl rfl) $$ H9
  iintro H9
  iapply (issueIn c E E0 10 rfl rfl rfl) $$ H10
  iintro H10
  iapply (issueIn c E E0 11 rfl rfl rfl) $$ H11
  iintro H11
  rw [wp_pure]
  imodintro
  iapply HQ
  isplitl [H6]; · iexact H6
  isplitl [H7]; · iexact H7
  isplitl [H8]; · iexact H8
  isplitl [H9]; · iexact H9
  isplitl [H10]; · iexact H10
  iexact H11

/-- Six copies out waited for. -/
theorem part6_run (O : Big F) (Q : PUnit → sProp 𝕄) :
    iprop(outF c O 0 ∗ outF c O 1 ∗ outF c O 2 ∗ outF c O 3 ∗ outF c O 4 ∗ outF c O 5 ∗ owing c)
      ⊢ iprop((iprop(landO c O 0 ∗ landO c O 1 ∗ landO c O 2 ∗ landO c O 3 ∗ landO c O 4 ∗ landO c O 5 ∗ owing c) -∗ Q ⟨⟩)
        -∗ WP c (k0_part6 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [k0_part6_eq_skeleton]
  unfold k0_part6_skel
  dsimp only
  simp only [wp_bind]
  iintro ⟨H0, H1, H2, H3, H4, H5, HO⟩ HQ
  iapply (awaitOut c O 0 rfl rfl) $$ [H0 HO]
  · isplitl [H0]; · iexact H0
    iexact HO
  iintro ⟨H0, HO⟩
  iapply (awaitOut c O 1 rfl rfl) $$ [H1 HO]
  · isplitl [H1]; · iexact H1
    iexact HO
  iintro ⟨H1, HO⟩
  iapply (awaitOut c O 2 rfl rfl) $$ [H2 HO]
  · isplitl [H2]; · iexact H2
    iexact HO
  iintro ⟨H2, HO⟩
  iapply (awaitOut c O 3 rfl rfl) $$ [H3 HO]
  · isplitl [H3]; · iexact H3
    iexact HO
  iintro ⟨H3, HO⟩
  iapply (awaitOut c O 4 rfl rfl) $$ [H4 HO]
  · isplitl [H4]; · iexact H4
    iexact HO
  iintro ⟨H4, HO⟩
  iapply (awaitOut c O 5 rfl rfl) $$ [H5 HO]
  · isplitl [H5]; · iexact H5
    iexact HO
  iintro ⟨H5, HO⟩
  rw [wp_pure]
  imodintro
  iapply HQ
  isplitl [H0]; · iexact H0
  isplitl [H1]; · iexact H1
  isplitl [H2]; · iexact H2
  isplitl [H3]; · iexact H3
  isplitl [H4]; · iexact H4
  isplitl [H5]; · iexact H5
  iexact HO

/-- Six copies out waited for. -/
theorem part7_run (O : Big F) (Q : PUnit → sProp 𝕄) :
    iprop(outF c O 6 ∗ outF c O 7 ∗ outF c O 8 ∗ outF c O 9 ∗ outF c O 10 ∗ outF c O 11 ∗ owing c)
      ⊢ iprop((iprop(landO c O 6 ∗ landO c O 7 ∗ landO c O 8 ∗ landO c O 9 ∗ landO c O 10 ∗ landO c O 11 ∗ owing c) -∗ Q ⟨⟩)
        -∗ WP c (k0_part7 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [k0_part7_eq_skeleton]
  unfold k0_part7_skel
  dsimp only
  simp only [wp_bind]
  iintro ⟨H6, H7, H8, H9, H10, H11, HO⟩ HQ
  iapply (awaitOut c O 6 rfl rfl) $$ [H6 HO]
  · isplitl [H6]; · iexact H6
    iexact HO
  iintro ⟨H6, HO⟩
  iapply (awaitOut c O 7 rfl rfl) $$ [H7 HO]
  · isplitl [H7]; · iexact H7
    iexact HO
  iintro ⟨H7, HO⟩
  iapply (awaitOut c O 8 rfl rfl) $$ [H8 HO]
  · isplitl [H8]; · iexact H8
    iexact HO
  iintro ⟨H8, HO⟩
  iapply (awaitOut c O 9 rfl rfl) $$ [H9 HO]
  · isplitl [H9]; · iexact H9
    iexact HO
  iintro ⟨H9, HO⟩
  iapply (awaitOut c O 10 rfl rfl) $$ [H10 HO]
  · isplitl [H10]; · iexact H10
    iexact HO
  iintro ⟨H10, HO⟩
  iapply (awaitOut c O 11 rfl rfl) $$ [H11 HO]
  · isplitl [H11]; · iexact H11
    iexact HO
  iintro ⟨H11, HO⟩
  rw [wp_pure]
  imodintro
  iapply HQ
  isplitl [H6]; · iexact H6
  isplitl [H7]; · iexact H7
  isplitl [H8]; · iexact H8
  isplitl [H9]; · iexact H9
  isplitl [H10]; · iexact H10
  isplitl [H11]; · iexact H11
  iexact HO

/-- The grid's word for block `0` decides whether the copies in are issued. -/
theorem isFirst : ∀ k : Fin 4, (Scalar.cmpi .ne (Scalar.extui (Scalar.cmpi .eq (BitVec.ofNat 32 k.val) 0#32) : BitVec 32) 0#32 = 1#1) ↔ k = 0 := by decide
/-- Block `3` is the one at which a pass ends. -/
theorem isLast : ∀ k : Fin 4, (Scalar.cmpi .ne (Scalar.extui (Scalar.cmpi .eq (BitVec.ofNat 32 k.val) 3#32) : BitVec 32) 0#32 = 1#1) ↔ k = 3 := by decide

/-- At a block after the first: the first two chunks are waited for. -/
theorem part4_next (E : Big F) (b : Fin 4) (hi : (i 1).val = b.val) (hb : b ≠ 0) (k0_h1 : k0_cond1 i = 1#1) (Q : PUnit → sProp 𝕄) :
    iprop(inF c E (idx b 0) ∗ inF c E (idx b 1) ∗ owing c)
      ⊢ iprop((iprop(land c E (idx b 0) ∗ land c E (idx b 1) ∗ owing c) -∗ Q ⟨⟩)
        -∗ WP c (k0_part4 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6 (BitVec.ofNat 32 (i 1).val) k0_h1) Q) := by
  rw [k0_part4_eq_skeleton]
  unfold k0_part4_skel
  dsimp only
  rw [dif_neg (fun h => hb ((isFirst b).mp (by rw [← hi]; exact h)))]
  simp only [wp_bind]
  iintro ⟨H0, H1, HO⟩ HQ
  iapply (awaitIn c E (idx b 0) (off2_ch i b 0 hi) (off1_sem i b 0 hi)) $$ [H0 HO]
  · isplitl [H0]; · iexact H0
    iexact HO
  iintro ⟨H0, HO⟩
  iapply (awaitIn c E (idx b 1) (off2_ch i b 1 hi) (off1_sem i b 1 hi)) $$ [H1 HO]
  · isplitl [H1]; · iexact H1
    iexact HO
  iintro ⟨H1, HO⟩
  rw [wp_pure]
  imodintro
  iapply HQ
  isplitl [H0]; · iexact H0
  isplitl [H1]; · iexact H1
  iexact HO

/-- At the first block: every copy in is started, and the first two chunks are waited for. -/
theorem part4_first (E E0 : Big F) (hi : (i 1).val = (0 : Fin 4).val) (k0_h1 : k0_cond1 i = 1#1) (Q : PUnit → sProp 𝕄) :
    iprop(pre c E E0 0 ∗ pre c E E0 1 ∗ pre c E E0 2 ∗ pre c E E0 3 ∗ pre c E E0 4 ∗ pre c E E0 5 ∗ pre c E E0 6 ∗ pre c E E0 7 ∗ pre c E E0 8 ∗ pre c E E0 9 ∗ pre c E E0 10 ∗ pre c E E0 11 ∗ pre c E E0 12 ∗ pre c E E0 13 ∗ pre c E E0 14 ∗ pre c E E0 15 ∗ owing c)
      ⊢ iprop((iprop(land c E 0 ∗ land c E 1 ∗ inF c E 2 ∗ inF c E 3 ∗ inF c E 4 ∗ inF c E 5 ∗ inF c E 6 ∗ inF c E 7 ∗ inF c E 8 ∗ inF c E 9 ∗ inF c E 10 ∗ inF c E 11 ∗ inF c E 12 ∗ inF c E 13 ∗ inF c E 14 ∗ inF c E 15 ∗ owing c) -∗ Q ⟨⟩)
        -∗ WP c (k0_part4 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6 (BitVec.ofNat 32 (i 1).val) k0_h1) Q) := by
  rw [k0_part4_eq_skeleton]
  unfold k0_part4_skel
  dsimp only
  rw [dif_pos (by rw [hi]; exact (isFirst 0).mpr rfl)]
  simp only [wp_bind]
  iintro ⟨H0, H1, H2, H3, H4, H5, H6, H7, H8, H9, H10, H11, H12, H13, H14, H15, HO⟩ HQ
  iapply (part1_run c i a3 h3 a4 h4 a5 h5 a6 h6 E E0) $$ [H0 H1 H2 H3 H4 H5]
  · isplitl [H0]; · iexact H0
    isplitl [H1]; · iexact H1
    isplitl [H2]; · iexact H2
    isplitl [H3]; · iexact H3
    isplitl [H4]; · iexact H4
    iexact H5
  iintro ⟨H0, H1, H2, H3, H4, H5⟩
  iapply (part2_run c i a3 h3 a4 h4 a5 h5 a6 h6 E E0) $$ [H6 H7 H8 H9 H10 H11]
  · isplitl [H6]; · iexact H6
    isplitl [H7]; · iexact H7
    isplitl [H8]; · iexact H8
    isplitl [H9]; · iexact H9
    isplitl [H10]; · iexact H10
    iexact H11
  iintro ⟨H6, H7, H8, H9, H10, H11⟩
  iapply (issueIn c E E0 12 rfl rfl rfl) $$ H12
  iintro H12
  iapply (issueIn c E E0 13 rfl rfl rfl) $$ H13
  iintro H13
  iapply (issueIn c E E0 14 rfl rfl rfl) $$ H14
  iintro H14
  iapply (issueIn c E E0 15 rfl rfl rfl) $$ H15
  iintro H15
  iapply (awaitIn c E 0 (off2_ch i 0 0 hi) (off1_sem i 0 0 hi)) $$ [H0 HO]
  · isplitl [H0]; · iexact H0
    iexact HO
  iintro ⟨H0, HO⟩
  iapply (awaitIn c E 1 (off2_ch i 0 1 hi) (off1_sem i 0 1 hi)) $$ [H1 HO]
  · isplitl [H1]; · iexact H1
    iexact HO
  iintro ⟨H1, HO⟩
  rw [wp_pure]
  imodintro
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact HO

/-- The block's four chunks landed, apart from the embeddings in HBM and the cells. -/
theorem four_land (E : Big F) (b : Fin 4) :
    four (land c E) b ⊣⊢ iprop(four (fun b => chk c M11 b E) b ∗ four (fun b => iprop(chk c M2 b E ∗ s13 c b)) b) := by
  unfold four land
  constructor
  · iintro ⟨⟨A0, B0⟩, ⟨A1, B1⟩, ⟨A2, B2⟩, ⟨A3, B3⟩⟩
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  · iintro ⟨⟨A0, A1, A2, A3⟩, ⟨B0, B1, B2, B3⟩⟩
    isplitl [A0 B0]
    · isplitl [A0]; · iexact A0
      iexact B0
    isplitl [A1 B1]
    · isplitl [A1]; · iexact A1
      iexact B1
    isplitl [A2 B2]
    · isplitl [A2]; · iexact A2
      iexact B2
    isplitl [A3]; · iexact A3
    iexact B3

/-- The windows as the body finds and leaves them. -/
def wins (P : S8192x1.Idx → Elt F .i32) (W1 : S256x128.Idx → Elt F .bf16) (B1 : S1x128.Idx → Elt F .f32) (W2 : S128x1.Idx → Elt F .f32) : sProp 𝕄 :=
  iprop(owns (c : Thread nD τ) a3 fullShare P ∗ owns (c : Thread nD τ) a4 fullShare W1 ∗ owns (c : Thread nD τ) a5 fullShare B1
    ∗ owns (c : Thread nD τ) a6 fullShare W2)

/-- The last two chunks of the block are waited for, and the block's scores and mask computed. -/
theorem part5_run (E : Big F) (b : Fin 4) (hi : (i 1).val = b.val) (k0_h1 : k0_cond1 i = 1#1)
    (P : S8192x1.Idx → Elt F .i32) (W1 : S256x128.Idx → Elt F .bf16) (B1 : S1x128.Idx → Elt F .f32) (W2 : S128x1.Idx → Elt F .f32)
    (Q : (Σ' (v52 : FVec F S8192x256 .bf16) (v65 : FVec F S8192x1 .f32) (v70 : IVec S8192x1 1), FVec F S8192x1 .f32) → sProp 𝕄) :
    iprop(land c E (idx b 0) ∗ land c E (idx b 1) ∗ inF c E (idx b 2) ∗ inF c E (idx b 3) ∗ owing c ∗ wins c a3 a4 a5 a6 P W1 B1 W2)
      ⊢ iprop((iprop(four (land c E) b ∗ owing c ∗ wins c a3 a4 a5 a6 P W1 B1 W2) -∗
            Q ⟨k0_pay13 (blkRead E b), k0_pay14 (blkRead E b) W1 B1 W2, k0_pay15 P, k0_pay16 (F := F)⟩)
        -∗ WP c (k0_part5 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6 (BitVec.ofNat 32 (i 1).val) k0_h1) Q) := by
  rw [k0_part5_eq_skeleton]
  unfold k0_part5_skel
  dsimp only
  simp only [wp_bind]
  iintro ⟨H0, H1, H2, H3, HO, HW⟩ HQ
  iapply (awaitIn c E (idx b 2) (off2_ch i b 2 hi) (off1_sem i b 2 hi)) $$ [H2 HO]
  · isplitl [H2]; · iexact H2
    iexact HO
  iintro ⟨H2, HO⟩
  iapply (awaitIn c E (idx b 3) (off2_ch i b 3 hi) (off1_sem i b 3 hi)) $$ [H3 HO]
  · isplitl [H3]; · iexact H3
    iexact HO
  iintro ⟨H3, HO⟩
  ihave HF : four (land c E) b $$ [H0 H1 H2 H3]
  · unfold four
    isplitl [H0]; · iexact H0
    isplitl [H1]; · iexact H1
    isplitl [H2]; · iexact H2
    iexact H3
  ihave HF := (four_land c E b).1 $$ HF
  icases HF with ⟨HF, HG⟩
  iapply (loadBlk c E b (show k0_off3 i = blkOff b by rw [k0_off3_eq, hi]; rfl)) $$ HF
  iintro HF
  unfold wins
  icases HW with ⟨W3, W4, W5, W6⟩
  iapply (loadOwn c a3 P) $$ W3
  iintro W3
  iapply (loadOwn c a4 W1) $$ W4
  iintro W4
  iapply (loadOwn c a5 B1) $$ W5
  iintro W5
  iapply (loadOwn c a6 W2) $$ W6
  iintro W6
  rw [wp_pure]
  imodintro
  iapply HQ
  isplitl [HF HG]
  · iapply (four_land c E b).2
    isplitl [HF]; · iexact HF
    iexact HG
  isplitl [HO]; · iexact HO
  isplitl [W3]; · iexact W3
  isplitl [W4]; · iexact W4
  isplitl [W5]; · iexact W5
  iexact W6

/-- The four maxima, sums and rows are read back and rescaled to the common maximum. -/
theorem part3_run (mv zv : Fin 4 → Elt F .f32) (pv : Fin 4 → S1x256.Idx → Elt F .f32)
    (Q : (Σ' (v103 : F .f32) (v124 : FVec F S1x256 .f32) (v127 : F .f32), F .f32) → sProp 𝕄) :
    iprop(wordsAt c M8 4 mv ∗ wordsAt c M9 4 zv ∗ rowsAt c 4 pv)
      ⊢ iprop((iprop(wordsAt c M8 4 mv ∗ wordsAt c M9 4 zv ∗ rowsAt c 4 pv) -∗
            Q ⟨k0_pay7 (mv 0) (mv 1) (mv 2) (mv 3), k0_pay10 (mv 0) (mv 1) (mv 2) (mv 3) (mv 0) (pv 0) (mv 1) (pv 1),
              k0_pay11 (mv 0) (mv 1) (mv 2) (mv 3) (mv 2), k0_pay12 (mv 0) (mv 1) (mv 2) (mv 3) (mv 0) (zv 0) (mv 1) (zv 1) (mv 2) (zv 2)⟩)
        -∗ WP c (k0_part3 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [k0_part3_eq_skeleton]
  unfold k0_part3_skel
  dsimp only
  simp only [wp_bind]
  iintro ⟨H8, H9, H10⟩ HQ
  iapply (readWord c M8 4 mv 0 (by decide) rfl) $$ H8
  iintro H8
  iapply (readWord c M8 4 mv 1 (by decide) rfl) $$ H8
  iintro H8
  iapply (readWord c M8 4 mv 2 (by decide) rfl) $$ H8
  iintro H8
  iapply (readWord c M8 4 mv 3 (by decide) rfl) $$ H8
  iintro H8
  iapply (readWord c M8 4 mv 0 (by decide) rfl) $$ H8
  iintro H8
  iapply (readWord c M9 4 zv 0 (by decide) rfl) $$ H9
  iintro H9
  iapply (readRow c 4 pv 0 (by decide) rfl) $$ H10
  iintro H10
  iapply (readWord c M8 4 mv 1 (by decide) rfl) $$ H8
  iintro H8
  iapply (readWord c M9 4 zv 1 (by decide) rfl) $$ H9
  iintro H9
  iapply (readRow c 4 pv 1 (by decide) rfl) $$ H10
  iintro H10
  iapply (readWord c M8 4 mv 2 (by decide) rfl) $$ H8
  iintro H8
  iapply (readWord c M9 4 zv 2 (by decide) rfl) $$ H9
  iintro H9
  rw [wp_pure]
  imodintro
  iapply HQ
  isplitl [H8]; · iexact H8
  isplitl [H9]; · iexact H9
  iexact H10

/-- The block's result is written over its rows, and the first chunk's copy out is started. -/
theorem part8_run (E O V6 : Big F) (b : Fin 4) (hi : (i 1).val = b.val) (k0_h4 : k0_cond4 i = 1#1)
    (P : S8192x1.Idx → Elt F .i32) (W1 : S256x128.Idx → Elt F .bf16) (B1 : S1x128.Idx → Elt F .f32) (W2 : S128x1.Idx → Elt F .f32)
    (pool : S1x256.Idx → Elt F .f32) (hO : blkRead O b = k0_pay17 (blkRead E b) P pool) (Q : BitVec 32 → sProp 𝕄) :
    iprop(four (fun b => chk c M11 b E) b ∗ preO c V6 (idx b 0) ∗ poolAt c pool ∗ wins c a3 a4 a5 a6 P W1 B1 W2)
      ⊢ iprop((iprop(outF c O (idx b 0) ∗ chk c M11 (idx b 1) O ∗ chk c M11 (idx b 2) O ∗ chk c M11 (idx b 3) O
            ∗ poolAt c pool ∗ wins c a3 a4 a5 a6 P W1 B1 W2) -∗ Q 8192#32)
        -∗ WP c (k0_part8 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6 (BitVec.ofNat 32 (i 1).val) k0_h4) Q) := by
  rw [k0_part8_eq_skeleton]
  unfold k0_part8_skel
  dsimp only
  simp only [wp_bind]
  unfold wins
  iintro ⟨HF, H0, HP, ⟨W3, W4, W5, W6⟩⟩ HQ
  iapply (loadBlk c E b (show k0_off6 i = blkOff b by rw [k0_off6_eq, hi]; rfl)) $$ HF
  iintro HF
  iapply (loadOwn c a3 P) $$ W3
  iintro W3
  iapply (readPool c pool) $$ HP
  iintro HP
  iapply (loadBlk c E b (show k0_off6 i = blkOff b by rw [k0_off6_eq, hi]; rfl)) $$ HF
  iintro HF
  iapply (storeBlk c E O b hO (show k0_off6 i = blkOff b by rw [k0_off6_eq, hi]; rfl)) $$ HF
  iintro HF
  unfold four
  icases HF with ⟨A0, A1, A2, A3⟩
  iapply (issueOut c O V6 (idx b 0) (off8_ch i b 0 hi) (off8_ch i b 0 hi) (off7_sem i b 0 hi)) $$ [A0 H0]
  · isplitl [A0]; · iexact A0
    iexact H0
  iintro A0
  rw [wp_pure]
  imodintro
  iapply HQ
  isplitl [A0]; · iexact A0
  isplitl [A1]; · iexact A1
  isplitl [A2]; · iexact A2
  isplitl [A3]; · iexact A3
  isplitl [HP]; · iexact HP
  isplitl [W3]; · iexact W3
  isplitl [W4]; · iexact W4
  isplitl [W5]; · iexact W5
  iexact W6

/-- The other three copies out are started. -/
theorem part9_run (O V6 : Big F) (b : Fin 4) (hi : (i 1).val = b.val) (k0_h4 : k0_cond4 i = 1#1) (w : BitVec 32)
    (Q : (Σ' (v75 : BitVec 32), BitVec 32) → sProp 𝕄) :
    iprop((chk c M11 (idx b 1) O ∗ preO c V6 (idx b 1)) ∗ (chk c M11 (idx b 2) O ∗ preO c V6 (idx b 2)) ∗ (chk c M11 (idx b 3) O ∗ preO c V6 (idx b 3)))
      ⊢ iprop((iprop(outF c O (idx b 1) ∗ outF c O (idx b 2) ∗ outF c O (idx b 3)) -∗
            Q ⟨Scalar.extui (Scalar.cmpi .eq (BitVec.ofNat 32 (i 1).val) 3#32), 0#32⟩)
        -∗ WP c (k0_part9 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6 (BitVec.ofNat 32 (i 1).val) k0_h4 w) Q) := by
  rw [k0_part9_eq_skeleton]
  unfold k0_part9_skel
  dsimp only
  simp only [wp_bind]
  iintro ⟨H1, H2, H3⟩ HQ
  iapply (issueOut c O V6 (idx b 1) (off8_ch i b 1 hi) (off8_ch i b 1 hi) (off7_sem i b 1 hi)) $$ H1
  iintro H1
  iapply (issueOut c O V6 (idx b 2) (off8_ch i b 2 hi) (off8_ch i b 2 hi) (off7_sem i b 2 hi)) $$ H2
  iintro H2
  iapply (issueOut c O V6 (idx b 3) (off8_ch i b 3 hi) (off8_ch i b 3 hi) (off7_sem i b 3 hi)) $$ H3
  iintro H3
  rw [wp_pure]
  imodintro
  iapply HQ
  isplitl [H1]; · iexact H1
  isplitl [H2]; · iexact H2
  iexact H3

end Cert.KernelIdeal.Hand

end
-- ==== Proof.PassIdeal.lean ====
/-
  The idealised kernel's body at a point of the grid: the first pass over a block (its maximum, its sum of weights and its
  weighted sum of rows) and the second (the rows written out).
-/
module

public import proofs.«01_k».proof.Proof.BodyIdeal
public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffixV
public import Idealize.ShloMosaic.Lib.Transfers
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (c : Dev nD)
variable (i : grid0.Coords) (a3 : Memref sig .tc .vmem S8192x1 .i32) (h3 : a3.IsWhole) (a4 : Memref sig .tc .vmem S256x128 .bf16)
  (h4 : a4.IsWhole) (a5 : Memref sig .tc .vmem S1x128 .f32) (h5 : a5.IsWhole) (a6 : Memref sig .tc .vmem S128x1 .f32) (h6 : a6.IsWhole)

/-- The first pass is where the first coordinate is zero. -/
theorem cond1_iff : ∀ i : grid0.Coords, k0_cond1 i = 1#1 ↔ (i 0).val = 0 := by decide +kernel
/-- The second pass is where the first coordinate is one. -/
theorem cond4_iff : ∀ i : grid0.Coords, k0_cond4 i = 1#1 ↔ (i 0).val = 1 := by decide +kernel

/-- What the four blocks' maxima, sums of weights and weighted sums pool to. -/
def poolOf (mv zv : Fin 4 → Elt F .f32) (pv : Fin 4 → S1x256.Idx → Elt F .f32) : S1x256.Idx → Elt F .f32 :=
  k0_pay6 (k0_pay7 (mv 0) (mv 1) (mv 2) (mv 3)) (k0_pay10 (mv 0) (mv 1) (mv 2) (mv 3) (mv 0) (pv 0) (mv 1) (pv 1))
    (k0_pay11 (mv 0) (mv 1) (mv 2) (mv 3) (mv 2)) (k0_pay12 (mv 0) (mv 1) (mv 2) (mv 3) (mv 0) (zv 0) (mv 1) (zv 1) (mv 2) (zv 2))
    (pv 2) (mv 3) (zv 3) (pv 3)

/-- A block's scores. -/
def scores (X : S8192x256.Idx → Elt F .f32) (W1 : S256x128.Idx → Elt F .bf16) (B1 : S1x128.Idx → Elt F .f32) (W2 : S128x1.Idx → Elt F .f32) :
    FVec F S8192x1 .f32 := k0_pay14 X W1 B1 W2

/-- The first pass over a block that is not the last. -/
theorem stepA (E : Big F) (b : Fin 4) (hi : (i 1).val = b.val) (hj : (i 0).val = 0) (hb3 : b ≠ 3) (k0_h1 : k0_cond1 i = 1#1)
    (P : S8192x1.Idx → Elt F .i32) (W1 : S256x128.Idx → Elt F .bf16) (B1 : S1x128.Idx → Elt F .f32) (W2 : S128x1.Idx → Elt F .f32)
    (mv zv : Fin 4 → Elt F .f32) (pv : Fin 4 → S1x256.Idx → Elt F .f32)
    (hm : mv b = k0_pay2 (scores (blkRead E b) W1 B1 W2) (k0_pay15 P) (k0_pay16 (F := F)))
    (hz : zv b = k0_pay4 (scores (blkRead E b) W1 B1 W2) (k0_pay15 P) (k0_pay16 (F := F)))
    (hp : pv b = k0_pay5 (k0_pay13 (blkRead E b)) (scores (blkRead E b) W1 B1 W2) (k0_pay15 P) (k0_pay16 (F := F)))
    (P0 R : sProp 𝕄)
    (hP : ∀ Q : PUnit → sProp 𝕄, P0 ⊢ iprop((iprop(land c E (idx b 0) ∗ land c E (idx b 1) ∗ inF c E (idx b 2) ∗ inF c E (idx b 3) ∗ owing c ∗ R) -∗ Q ⟨⟩)
      -∗ WP c (k0_part4 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6 (BitVec.ofNat 32 (i 1).val) k0_h1) Q))
    (Q : PUnit → sProp 𝕄) :
    iprop(P0 ∗ wins c a3 a4 a5 a6 P W1 B1 W2 ∗ wordsAt c M8 b.val mv ∗ wordsAt c M9 b.val zv ∗ rowsAt c b.val pv ∗ poolAny (F := F) c)
      ⊢ iprop((iprop(four (land c E) b ∗ R ∗ owing c ∗ wins c a3 a4 a5 a6 P W1 B1 W2 ∗ wordsAt c M8 (b.val + 1) mv ∗ wordsAt c M9 (b.val + 1) zv
            ∗ rowsAt c (b.val + 1) pv ∗ poolAny (F := F) c) -∗ Q ⟨⟩)
        -∗ WP c (cc0__body (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [cc0__body_eq_skeleton]
  unfold cc0__body_skel
  dsimp only
  rw [dif_pos k0_h1, dif_neg (fun h => absurd ((cond4_iff i).mp h) (by omega))]
  simp only [wp_bind]
  iintro ⟨H0, HW, H8, H9, H10, H12⟩ HQ
  iapply (hP _) $$ H0
  iintro ⟨A0, A1, A2, A3, HO, HR⟩
  iapply (part5_run c i a3 h3 a4 h4 a5 h5 a6 h6 E b hi k0_h1 P W1 B1 W2) $$ [A0 A1 A2 A3 HO HW]
  · isplitl [A0]; · iexact A0
    isplitl [A1]; · iexact A1
    isplitl [A2]; · iexact A2
    isplitl [A3]; · iexact A3
    isplitl [HO]; · iexact HO
    iexact HW
  iintro ⟨HF, HO, HW⟩
  dsimp only
  iapply (readWord' c M8 _ mv) $$ H8
  iintro %x8 H8
  iapply (writeWord c M8 mv b (by rw [hm]; rfl) (by rw [k0_off4_eq, hi])) $$ H8
  iintro H8
  iapply (readWord' c M9 _ zv) $$ H9
  iintro %x9 H9
  iapply (writeWord c M9 zv b (by rw [hz]; rfl) (by rw [k0_off4_eq, hi])) $$ H9
  iintro H9
  iapply (readRow' c _ pv) $$ H10
  iintro %x10 H10
  iapply (writeRow c pv b (by rw [hp]; rfl) (by rw [k0_off5_eq, hi])) $$ H10
  iintro H10
  rw [dif_neg (fun h => hb3 ((isLast b).mp (by rw [← hi]; exact h)))]
  simp only [wp_pure]
  imodintro
  iapply HQ
  isplitl [HF]; · iexact HF
  isplitl [HR]; · iexact HR
  isplitl [HO]; · iexact HO
  isplitl [HW]; · iexact HW
  isplitl [H8]; · iexact H8
  isplitl [H9]; · iexact H9
  isplitl [H10]; · iexact H10
  iexact H12

/-- The first pass over the last block, and the four blocks pooled. -/
theorem stepA_last (E : Big F) (hi : (i 1).val = (3 : Fin 4).val) (hj : (i 0).val = 0) (k0_h1 : k0_cond1 i = 1#1)
    (P : S8192x1.Idx → Elt F .i32) (W1 : S256x128.Idx → Elt F .bf16) (B1 : S1x128.Idx → Elt F .f32) (W2 : S128x1.Idx → Elt F .f32)
    (mv zv : Fin 4 → Elt F .f32) (pv : Fin 4 → S1x256.Idx → Elt F .f32)
    (hm : mv 3 = k0_pay2 (scores (blkRead E 3) W1 B1 W2) (k0_pay15 P) (k0_pay16 (F := F)))
    (hz : zv 3 = k0_pay4 (scores (blkRead E 3) W1 B1 W2) (k0_pay15 P) (k0_pay16 (F := F)))
    (hp : pv 3 = k0_pay5 (k0_pay13 (blkRead E 3)) (scores (blkRead E 3) W1 B1 W2) (k0_pay15 P) (k0_pay16 (F := F)))
    (P0 R : sProp 𝕄)
    (hP : ∀ Q : PUnit → sProp 𝕄, P0 ⊢ iprop((iprop(land c E (idx 3 0) ∗ land c E (idx 3 1) ∗ inF c E (idx 3 2) ∗ inF c E (idx 3 3) ∗ owing c ∗ R) -∗ Q ⟨⟩)
      -∗ WP c (k0_part4 (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6 (BitVec.ofNat 32 (i 1).val) k0_h1) Q))
    (Q : PUnit → sProp 𝕄) :
    iprop(P0 ∗ wins c a3 a4 a5 a6 P W1 B1 W2 ∗ wordsAt c M8 (3 : Fin 4).val mv ∗ wordsAt c M9 (3 : Fin 4).val zv ∗ rowsAt c (3 : Fin 4).val pv ∗ poolAny (F := F) c)
      ⊢ iprop((iprop(four (land c E) 3 ∗ R ∗ owing c ∗ wins c a3 a4 a5 a6 P W1 B1 W2 ∗ wordsAt c M8 (4) mv ∗ wordsAt c M9 (4) zv
            ∗ rowsAt c (4) pv ∗ poolAt c (poolOf mv zv pv)) -∗ Q ⟨⟩)
        -∗ WP c (cc0__body (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [cc0__body_eq_skeleton]
  unfold cc0__body_skel
  dsimp only
  rw [dif_pos k0_h1, dif_neg (fun h => absurd ((cond4_iff i).mp h) (by omega))]
  simp only [wp_bind]
  iintro ⟨H0, HW, H8, H9, H10, H12⟩ HQ
  iapply (hP _) $$ H0
  iintro ⟨A0, A1, A2, A3, HO, HR⟩
  iapply (part5_run c i a3 h3 a4 h4 a5 h5 a6 h6 E 3 hi k0_h1 P W1 B1 W2) $$ [A0 A1 A2 A3 HO HW]
  · isplitl [A0]; · iexact A0
    isplitl [A1]; · iexact A1
    isplitl [A2]; · iexact A2
    isplitl [A3]; · iexact A3
    isplitl [HO]; · iexact HO
    iexact HW
  iintro ⟨HF, HO, HW⟩
  dsimp only
  iapply (readWord' c M8 _ mv) $$ H8
  iintro %x8 H8
  iapply (writeWord c M8 mv 3 (by rw [hm]; rfl) (by rw [k0_off4_eq, hi])) $$ H8
  iintro H8
  iapply (readWord' c M9 _ zv) $$ H9
  iintro %x9 H9
  iapply (writeWord c M9 zv 3 (by rw [hz]; rfl) (by rw [k0_off4_eq, hi])) $$ H9
  iintro H9
  iapply (readRow' c _ pv) $$ H10
  iintro %x10 H10
  iapply (writeRow c pv 3 (by rw [hp]; rfl) (by rw [k0_off5_eq, hi])) $$ H10
  iintro H10
  rw [dif_pos (by rw [hi]; exact (isLast 3).mpr rfl)]
  simp only [wp_bind]
  iapply (part3_run c i a3 h3 a4 h4 a5 h5 a6 h6 mv zv pv) $$ [H8 H9 H10]
  · isplitl [H8]; · iexact H8
    isplitl [H9]; · iexact H9
    iexact H10
  iintro ⟨H8, H9, H10⟩
  dsimp only
  iapply (readRow c 4 pv 2 (by decide) rfl) $$ H10
  iintro H10
  iapply (readWord c M8 4 mv 3 (by decide) rfl) $$ H8
  iintro H8
  iapply (readWord c M9 4 zv 3 (by decide) rfl) $$ H9
  iintro H9
  iapply (readRow c 4 pv 3 (by decide) rfl) $$ H10
  iintro H10
  iapply (readPool' c) $$ H12
  iintro %x12 H12
  iapply (writePool c (poolOf mv zv pv) (by funext a; fin_cases a <;> rfl)) $$ H12
  iintro H12
  simp only [wp_pure]
  imodintro
  iapply HQ
  isplitl [HF]; · iexact HF
  isplitl [HR]; · iexact HR
  isplitl [HO]; · iexact HO
  isplitl [HW]; · iexact HW
  isplitl [H8]; · iexact H8
  isplitl [H9]; · iexact H9
  isplitl [H10]; · iexact H10
  iexact H12

/-- The second pass over a block that is not the last. -/
theorem stepB (E O V6 : Big F) (b : Fin 4) (hi : (i 1).val = b.val) (hj : (i 0).val = 1) (hb3 : b ≠ 3) (k0_h4 : k0_cond4 i = 1#1)
    (P : S8192x1.Idx → Elt F .i32) (W1 : S256x128.Idx → Elt F .bf16) (B1 : S1x128.Idx → Elt F .f32) (W2 : S128x1.Idx → Elt F .f32)
    (pool : S1x256.Idx → Elt F .f32) (hO : blkRead O b = k0_pay17 (blkRead E b) P pool)
    (Q : PUnit → sProp 𝕄) :
    iprop(four (fun b => chk c M11 b E) b ∗ four (preO c V6) b ∗ owing c ∗ wins c a3 a4 a5 a6 P W1 B1 W2 ∗ poolAt c pool)
      ⊢ iprop((iprop(four (outF c O) b ∗ owing c ∗ wins c a3 a4 a5 a6 P W1 B1 W2 ∗ poolAt c pool) -∗ Q ⟨⟩)
        -∗ WP c (cc0__body (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [cc0__body_eq_skeleton]
  unfold cc0__body_skel
  dsimp only
  rw [dif_neg (fun h => absurd ((cond1_iff i).mp h) (by omega)), dif_pos k0_h4]
  simp only [wp_bind]
  iintro ⟨HF, HV, HO, HW, HP⟩ HQ
  ihave HV := (Entails.of_eq (show four (preO c V6) b = iprop(preO c V6 (idx b 0) ∗ preO c V6 (idx b 1) ∗ preO c V6 (idx b 2) ∗ preO c V6 (idx b 3)) from rfl)) $$ HV
  icases HV with ⟨V0, V1, V2, V3⟩
  iapply (part8_run c i a3 h3 a4 h4 a5 h5 a6 h6 E O V6 b hi k0_h4 P W1 B1 W2 pool hO) $$ [HF V0 HP HW]
  · isplitl [HF]; · iexact HF
    isplitl [V0]; · iexact V0
    isplitl [HP]; · iexact HP
    iexact HW
  iintro ⟨A0, A1, A2, A3, HP, HW⟩
  iapply (part9_run c i a3 h3 a4 h4 a5 h5 a6 h6 O V6 b hi k0_h4 _) $$ [A1 A2 A3 V1 V2 V3]
  · isplitl [A1 V1]
    · isplitl [A1]; · iexact A1
      iexact V1
    isplitl [A2 V2]
    · isplitl [A2]; · iexact A2
      iexact V2
    isplitl [A3]; · iexact A3
    iexact V3
  iintro ⟨A1, A2, A3⟩
  dsimp only
  rw [dif_neg (fun h => hb3 ((isLast b).mp (by rw [← hi]; exact h)))]
  simp only [wp_pure]
  imodintro
  iapply HQ
  isplitl [A0 A1 A2 A3]
  · unfold four
    isplitl [A0]; · iexact A0
    isplitl [A1]; · iexact A1
    isplitl [A2]; · iexact A2
    iexact A3
  isplitl [HO]; · iexact HO
  isplitl [HW]; · iexact HW
  iexact HP

/-- The second pass over the last block, and every copy out waited for. -/
theorem stepB_last (E O V6 : Big F) (hi : (i 1).val = (3 : Fin 4).val) (hj : (i 0).val = 1) (k0_h4 : k0_cond4 i = 1#1)
    (P : S8192x1.Idx → Elt F .i32) (W1 : S256x128.Idx → Elt F .bf16) (B1 : S1x128.Idx → Elt F .f32) (W2 : S128x1.Idx → Elt F .f32)
    (pool : S1x256.Idx → Elt F .f32) (hO : blkRead O 3 = k0_pay17 (blkRead E 3) P pool)
    (Q : PUnit → sProp 𝕄) :
    iprop(four (fun b => chk c M11 b E) 3 ∗ four (preO c V6) 3 ∗ owing c ∗ wins c a3 a4 a5 a6 P W1 B1 W2 ∗ poolAt c pool ∗ outF c O 0 ∗ outF c O 1 ∗ outF c O 2 ∗ outF c O 3 ∗ outF c O 4 ∗ outF c O 5 ∗ outF c O 6 ∗ outF c O 7 ∗ outF c O 8 ∗ outF c O 9 ∗ outF c O 10 ∗ outF c O 11)
      ⊢ iprop((iprop(landO c O 0 ∗ landO c O 1 ∗ landO c O 2 ∗ landO c O 3 ∗ landO c O 4 ∗ landO c O 5 ∗ landO c O 6 ∗ landO c O 7 ∗ landO c O 8 ∗ landO c O 9 ∗ landO c O 10 ∗ landO c O 11 ∗ landO c O 12 ∗ landO c O 13 ∗ landO c O 14 ∗ landO c O 15 ∗ owing c ∗ wins c a3 a4 a5 a6 P W1 B1 W2 ∗ poolAt c pool) -∗ Q ⟨⟩)
        -∗ WP c (cc0__body (F := F) i M2 (Memref.isWhole_whole _) a3 h3 a4 h4 a5 h5 a6 h6 M7 (Memref.isWhole_whole _)
          M8 (Memref.isWhole_whole _) M9 (Memref.isWhole_whole _) M10 (Memref.isWhole_whole _)
          M11 (Memref.isWhole_whole _) M12 (Memref.isWhole_whole _) cc0_scratch5 cc0_scratch6) Q) := by
  rw [cc0__body_eq_skeleton]
  unfold cc0__body_skel
  dsimp only
  rw [dif_neg (fun h => absurd ((cond1_iff i).mp h) (by omega)), dif_pos k0_h4]
  simp only [wp_bind]
  iintro ⟨HF, HV, HO, HW, HP, H0, H1, H2, H3, H4, H5, H6, H7, H8, H9, H10, H11⟩ HQ
  ihave HV := (Entails.of_eq (show four (preO c V6) 3 = iprop(preO c V6 (idx 3 0) ∗ preO c V6 (idx 3 1) ∗ preO c V6 (idx 3 2) ∗ preO c V6 (idx 3 3)) from rfl)) $$ HV
  icases HV with ⟨V0, V1, V2, V3⟩
  iapply (part8_run c i a3 h3 a4 h4 a5 h5 a6 h6 E O V6 3 hi k0_h4 P W1 B1 W2 pool hO) $$ [HF V0 HP HW]
  · isplitl [HF]; · iexact HF
    isplitl [V0]; · iexact V0
    isplitl [HP]; · iexact HP
    iexact HW
  iintro ⟨A0, A1, A2, A3, HP, HW⟩
  iapply (part9_run c i a3 h3 a4 h4 a5 h5 a6 h6 O V6 3 hi k0_h4 _) $$ [A1 A2 A3 V1 V2 V3]
  · isplitl [A1 V1]
    · isplitl [A1]; · iexact A1
      iexact V1
    isplitl [A2 V2]
    · isplitl [A2]; · iexact A2
      iexact V2
    isplitl [A3]; · iexact A3
    iexact V3
  iintro ⟨A1, A2, A3⟩
  dsimp only
  rw [dif_pos (by rw [hi]; exact (isLast 3).mpr rfl)]
  simp only [wp_bind]
  iapply (part6_run c i a3 h3 a4 h4 a5 h5 a6 h6 O) $$ [H0 H1 H2 H3 H4 H5 HO]
  · isplitl [H0]; · iexact H0
    isplitl [H1]; · iexact H1
    isplitl [H2]; · iexact H2
    isplitl [H3]; · iexact H3
    isplitl [H4]; · iexact H4
    isplitl [H5]; · iexact H5
    iexact HO
  iintro ⟨H0, H1, H2, H3, H4, H5, HO⟩
  iapply (part7_run c i a3 h3 a4 h4 a5 h5 a6 h6 O) $$ [H6 H7 H8 H9 H10 H11 HO]
  · isplitl [H6]; · iexact H6
    isplitl [H7]; · iexact H7
    isplitl [H8]; · iexact H8
    isplitl [H9]; · iexact H9
    isplitl [H10]; · iexact H10
    isplitl [H11]; · iexact H11
    iexact HO
  iintro ⟨H6, H7, H8, H9, H10, H11, HO⟩
  iapply (awaitOut c O 12 rfl rfl) $$ [A0 HO]
  · isplitl [A0]; · iexact A0
    iexact HO
  iintro ⟨H12, HO⟩
  iapply (awaitOut c O 13 rfl rfl) $$ [A1 HO]
  · isplitl [A1]; · iexact A1
    iexact HO
  iintro ⟨H13, HO⟩
  iapply (awaitOut c O 14 rfl rfl) $$ [A2 HO]
  · isplitl [A2]; · iexact A2
    iexact HO
  iintro ⟨H14, HO⟩
  iapply (awaitOut c O 15 rfl rfl) $$ [A3 HO]
  · isplitl [A3]; · iexact A3
    iexact HO
  iintro ⟨H15, HO⟩
  simp only [wp_pure]
  imodintro
  iapply HQ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HO]; · iexact HO
  isplitl [HW]; · iexact HW
  iexact HP

end Cert.KernelIdeal.Hand

end
-- ==== Proof.RunIdeal.lean ====
/-
  The idealised kernel's run: what the buffers, the copies in flight and the scratch hold between two points of the
  grid, the body's step at each point, and the whole program's run.
-/
module

public import proofs.«01_k».proof.Proof.PassIdeal
public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.FrameSuffixV
public import Idealize.ShloMosaic.Lib.Transfers
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The values -/

/-- The point of the first pass over block `b`, and of the second. -/
def tA (b : Fin 4) : Fin cfg0.N := ![t0_0, t0_1, t0_2, t0_3] b
def tB (b : Fin 4) : Fin cfg0.N := ![t0_4, t0_5, t0_6, t0_7] b

/-- The embeddings, as rows. -/
def emb (c : Dev nD) : Big F := V m c main_v0

/-- The result's buffer as the region finds it. -/
def res0 (c : Dev nD) : Big F := V m c main_v6

/-- The four staged blocks at a point: the path lengths, the first layer's weights and bias, the second layer's weights. -/
def inP (c : Dev nD) (t : Fin cfg0.N) : S8192x1.Idx → Elt F .i32 := iblk m c 0 t
def inW1 (c : Dev nD) (t : Fin cfg0.N) : S256x128.Idx → Elt F .bf16 := iblk m c 1 t
def inB1 (c : Dev nD) (t : Fin cfg0.N) : S1x128.Idx → Elt F .f32 := iblk m c 2 t
def inW2 (c : Dev nD) (t : Fin cfg0.N) : S128x1.Idx → Elt F .f32 := iblk m c 3 t

/-- Block `b`'s scores. -/
def scoresAt (c : Dev nD) (b : Fin 4) : FVec F S8192x1 .f32 :=
  scores (blkRead (emb m c) b) (inW1 m c (tA b)) (inB1 m c (tA b)) (inW2 m c (tA b))

/-- Block `b`'s maximum, sum of weights and weighted sum of rows. -/
def mvOf (c : Dev nD) (b : Fin 4) : Elt F .f32 := k0_pay2 (scoresAt m c b) (k0_pay15 (inP m c (tA b))) (k0_pay16 (F := F))
def zvOf (c : Dev nD) (b : Fin 4) : Elt F .f32 := k0_pay4 (scoresAt m c b) (k0_pay15 (inP m c (tA b))) (k0_pay16 (F := F))
def pvOf (c : Dev nD) (b : Fin 4) : S1x256.Idx → Elt F .f32 :=
  k0_pay5 (k0_pay13 (blkRead (emb m c) b)) (scoresAt m c b) (k0_pay15 (inP m c (tA b))) (k0_pay16 (F := F))

/-- The pooled row. -/
def pooledRow (c : Dev nD) : S1x256.Idx → Elt F .f32 := poolOf (mvOf m c) (zvOf m c) (pvOf m c)

/-- What the second pass writes over block `b`. -/
def outBlk (c : Dev nD) (b : Fin 4) : S8192x256.Idx → Elt F .f32 :=
  k0_pay17 (blkRead (emb m c) b) (inP m c (tB b)) (pooledRow m c)

/-- The block a row lies in, and its place there. -/
def blkNo (x : S32768x256.Idx) : Fin 4 := ⟨(x 0).val / 8192, by have : (x 0).val < 32768 := (x 0).isLt; omega⟩
def inBlk (x : S32768x256.Idx) : S8192x256.Idx := Fin.cons (⟨(x 0).val % 8192, Nat.mod_lt _ (by decide)⟩ : Fin 8192)
  (Fin.cons (⟨(x 1).val, (x 1).isLt⟩ : Fin 256) (fun a => a.elim0))

/-- The whole result, as rows. -/
def outBig (c : Dev nD) : Big F := fun x => outBlk m c (blkNo x) (inBlk x)

/-- A block of the whole result is the block's result. -/
theorem blkRead_outBig (c : Dev nD) (b : Fin 4) : blkRead (outBig m c) b = outBlk m c b := by
  funext y
  have e : blkRead (outBig m c) b y = outBig m c ((blkR b).idx y) := rfl
  have h0 : (y 0).val < 8192 := (y 0).isLt
  have e0 : ((blkR b).idx y 0).val = 8192 * b.val + 1 * (y 0).val := rfl
  have e1 : ((blkR b).idx y 1).val = 0 + 1 * (y 1).val := rfl
  rw [e]
  unfold outBig
  have hb : blkNo ((blkR b).idx y) = b := Fin.ext (by
    show ((blkR b).idx y 0).val / 8192 = b.val
    rw [e0]; omega)
  have hy : inBlk ((blkR b).idx y) = y := by
    funext a
    fin_cases a
    · refine Fin.ext ?_
      show ((blkR b).idx y 0).val % 8192 = (y 0).val
      rw [e0]; omega
    · refine Fin.ext ?_
      show ((blkR b).idx y 1).val = (y 1).val
      rw [e1]; omega
  rw [hb, hy]

/-! ## Between two points -/

/-- A block's four chunks: on chip, on their way in, given back to HBM, on their way out, and the result's not yet written. -/
abbrev stA (c : Dev nD) (b : Fin 4) : sProp 𝕄 := four (land c (emb m c)) b
abbrev stI (c : Dev nD) (b : Fin 4) : sProp 𝕄 := four (inF c (emb m c)) b
abbrev stL (c : Dev nD) (b : Fin 4) : sProp 𝕄 := four (fun b => iprop(chk c M2 b (emb m c) ∗ s13 c b)) b
abbrev stU (c : Dev nD) (b : Fin 4) : sProp 𝕄 := four (outF c (outBig m c)) b
abbrev stP (c : Dev nD) (b : Fin 4) : sProp 𝕄 := four (preO c (res0 m c)) b

/-- The scratch after `n` blocks. -/
def stK (c : Dev nD) (n : ℕ) : sProp 𝕄 :=
  iprop(wordsAt c M8 n (mvOf m c) ∗ wordsAt c M9 n (zvOf m c) ∗ rowsAt c n (pvOf m c))

/-- What the body holds before point 0. -/
def at0 (c : Dev nD) : sProp 𝕄 :=
  iprop(∃ E0 : Big F, (pre c (emb m c) E0 0 ∗ pre c (emb m c) E0 1 ∗ pre c (emb m c) E0 2 ∗ pre c (emb m c) E0 3 ∗ pre c (emb m c) E0 4 ∗ pre c (emb m c) E0 5 ∗ pre c (emb m c) E0 6 ∗ pre c (emb m c) E0 7 ∗ pre c (emb m c) E0 8 ∗ pre c (emb m c) E0 9 ∗ pre c (emb m c) E0 10 ∗ pre c (emb m c) E0 11 ∗ pre c (emb m c) E0 12 ∗ pre c (emb m c) E0 13 ∗ pre c (emb m c) E0 14 ∗ pre c (emb m c) E0 15)
      ∗ (stP m c 0 ∗ stP m c 1 ∗ stP m c 2 ∗ stP m c 3) ∗ stK m c 0 ∗ poolAny c)
/-- What the body holds before point 1. -/
def at1 (c : Dev nD) : sProp 𝕄 :=
  iprop((stA m c 0 ∗ stI m c 1 ∗ stI m c 2 ∗ stI m c 3) ∗ (stP m c 0 ∗ stP m c 1 ∗ stP m c 2 ∗ stP m c 3) ∗ stK m c 1 ∗ poolAny c)
/-- What the body holds before point 2. -/
def at2 (c : Dev nD) : sProp 𝕄 :=
  iprop((stA m c 0 ∗ stA m c 1 ∗ stI m c 2 ∗ stI m c 3) ∗ (stP m c 0 ∗ stP m c 1 ∗ stP m c 2 ∗ stP m c 3) ∗ stK m c 2 ∗ poolAny c)
/-- What the body holds before point 3. -/
def at3 (c : Dev nD) : sProp 𝕄 :=
  iprop((stA m c 0 ∗ stA m c 1 ∗ stA m c 2 ∗ stI m c 3) ∗ (stP m c 0 ∗ stP m c 1 ∗ stP m c 2 ∗ stP m c 3) ∗ stK m c 3 ∗ poolAny c)
/-- What the body holds before point 4. -/
def at4 (c : Dev nD) : sProp 𝕄 :=
  iprop((stA m c 0 ∗ stA m c 1 ∗ stA m c 2 ∗ stA m c 3) ∗ (stP m c 0 ∗ stP m c 1 ∗ stP m c 2 ∗ stP m c 3) ∗ stK m c 4 ∗ poolAt c (pooledRow m c))
/-- What the body holds before point 5. -/
def at5 (c : Dev nD) : sProp 𝕄 :=
  iprop(((stL m c 0 ∗ stU m c 0) ∗ stA m c 1 ∗ stA m c 2 ∗ stA m c 3) ∗ (stP m c 1 ∗ stP m c 2 ∗ stP m c 3) ∗ stK m c 4 ∗ poolAt c (pooledRow m c))
/-- What the body holds before point 6. -/
def at6 (c : Dev nD) : sProp 𝕄 :=
  iprop(((stL m c 0 ∗ stU m c 0) ∗ (stL m c 1 ∗ stU m c 1) ∗ stA m c 2 ∗ stA m c 3) ∗ (stP m c 2 ∗ stP m c 3) ∗ stK m c 4 ∗ poolAt c (pooledRow m c))
/-- What the body holds before point 7. -/
def at7 (c : Dev nD) : sProp 𝕄 :=
  iprop(((stL m c 0 ∗ stU m c 0) ∗ (stL m c 1 ∗ stU m c 1) ∗ (stL m c 2 ∗ stU m c 2) ∗ stA m c 3) ∗ stP m c 3 ∗ stK m c 4 ∗ poolAt c (pooledRow m c))
/-- What the body leaves. -/
def at8 (c : Dev nD) : sProp 𝕄 :=
  iprop((stL m c 0 ∗ stL m c 1 ∗ stL m c 2 ∗ stL m c 3) ∗ (landO c (outBig m c) 0 ∗ landO c (outBig m c) 1 ∗ landO c (outBig m c) 2 ∗ landO c (outBig m c) 3 ∗ landO c (outBig m c) 4 ∗ landO c (outBig m c) 5 ∗ landO c (outBig m c) 6 ∗ landO c (outBig m c) 7 ∗ landO c (outBig m c) 8 ∗ landO c (outBig m c) 9 ∗ landO c (outBig m c) 10 ∗ landO c (outBig m c) 11 ∗ landO c (outBig m c) 12 ∗ landO c (outBig m c) 13 ∗ landO c (outBig m c) 14 ∗ landO c (outBig m c) 15)
      ∗ stK m c 4 ∗ poolAt c (pooledRow m c))
/-- The same, by the point's number. -/
def inv (c : Dev nD) : ℕ → sProp 𝕄
  | 0 => at0 m c
  | 1 => at1 m c
  | 2 => at2 m c
  | 3 => at3 m c
  | 4 => at4 m c
  | 5 => at5 m c
  | 6 => at6 m c
  | 7 => at7 m c
  | _ => at8 m c

/-- The four windows at point `t`. -/
def winsT (c : Dev nD) (t : Fin cfg0.N) : sProp 𝕄 :=
  wins c (st0_0 t) (st0_1 t) (st0_2 t) (st0_3 t) (inP m c t) (inW1 m c t) (inB1 m c t) (inW2 m c t)

/-! ## The eight points -/

/-- Point 0: the first pass over block 0. -/
theorem step_0 (c : Dev nD) (Q : PUnit → sProp 𝕄) :
    iprop(at0 m c ∗ owing c ∗ winsT m c t0_0) ⊢ iprop((iprop(at1 m c ∗ owing c ∗ winsT m c t0_0) -∗ Q ⟨⟩) -∗ WP c (bodyAt0 t0_0) Q) := by
  unfold at0 at1 winsT stK
  iintro ⟨⟨%E0, ⟨H0, H1, H2, H3, H4, H5, H6, H7, H8, H9, H10, H11, H12, H13, H14, H15⟩, HP, ⟨K8, K9, K10⟩, K12⟩, HO, HW⟩ HQ
  iapply (stepA c (grid0.coords t0_0) _ _ _ _ _ _ _ _ (emb m c) 0 (by decide +kernel) (by decide +kernel) (by decide) (by decide +kernel)
    (inP m c t0_0) (inW1 m c t0_0) (inB1 m c t0_0) (inW2 m c t0_0) (mvOf m c) (zvOf m c) (pvOf m c) rfl rfl rfl
    iprop(pre c (emb m c) E0 0 ∗ pre c (emb m c) E0 1 ∗ pre c (emb m c) E0 2 ∗ pre c (emb m c) E0 3 ∗ pre c (emb m c) E0 4 ∗ pre c (emb m c) E0 5 ∗ pre c (emb m c) E0 6 ∗ pre c (emb m c) E0 7 ∗ pre c (emb m c) E0 8 ∗ pre c (emb m c) E0 9 ∗ pre c (emb m c) E0 10 ∗ pre c (emb m c) E0 11 ∗ pre c (emb m c) E0 12 ∗ pre c (emb m c) E0 13 ∗ pre c (emb m c) E0 14 ∗ pre c (emb m c) E0 15 ∗ owing c)
    iprop(stI m c 1 ∗ stI m c 2 ∗ stI m c 3) (fun Q => ?_)) $$ [H0 H1 H2 H3 H4 H5 H6 H7 H8 H9 H10 H11 H12 H13 H14 H15 HO HW K8 K9 K10 K12]
  · iintro H HQ
    iapply (part4_first c (grid0.coords t0_0) _ _ _ _ _ _ _ _ (emb m c) E0 (by decide +kernel) _) $$ H
    iintro ⟨H0, H1, H2, H3, H4, H5, H6, H7, H8, H9, H10, H11, H12, H13, H14, H15, HO⟩
    iapply HQ
    unfold stI four
    isplitl [H0]; · iexact H0
    isplitl [H1]; · iexact H1
    isplitl [H2]; · iexact H2
    isplitl [H3]; · iexact H3
    isplitl [HO]; · iexact HO
    isplitl [H4 H5 H6 H7]
    · isplitl [H4]; · iexact H4
      isplitl [H5]; · iexact H5
      isplitl [H6]; · iexact H6
      iexact H7
    isplitl [H8 H9 H10 H11]
    · isplitl [H8]; · iexact H8
      isplitl [H9]; · iexact H9
      isplitl [H10]; · iexact H10
      iexact H11
    isplitl [H12]; · iexact H12
    isplitl [H13]; · iexact H13
    isplitl [H14]; · iexact H14
    iexact H15
  · isplitl [H0 H1 H2 H3 H4 H5 H6 H7 H8 H9 H10 H11 H12 H13 H14 H15 HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact HO
    isplitl [HW]; · iexact HW
    isplitl [K8]; · iexact K8
    isplitl [K9]; · iexact K9
    isplitl [K10]; · iexact K10
    iexact K12
  iintro ⟨A, ⟨I1, I2, I3⟩, HO, HW, K8, K9, K10, K12⟩
  iapply HQ
  isplitr [HO HW]
  · isplitl [A I1 I2 I3]
    · isplitl [A]; · iexact A
      isplitl [I1]; · iexact I1
      isplitl [I2]; · iexact I2
      iexact I3
    isplitl [HP]; · iexact HP
    isplitr [K12]
    · isplitl [K8]; · iexact K8
      isplitl [K9]; · iexact K9
      iexact K10
    iexact K12
  isplitl [HO]; · iexact HO
  iexact HW

/-- Point 1: the first pass over block 1. -/
theorem step_1 (c : Dev nD) (Q : PUnit → sProp 𝕄) :
    iprop(at1 m c ∗ owing c ∗ winsT m c t0_1) ⊢ iprop((iprop(at2 m c ∗ owing c ∗ winsT m c t0_1) -∗ Q ⟨⟩) -∗ WP c (bodyAt0 t0_1) Q) := by
  unfold at1 at2 winsT stK
  iintro ⟨⟨⟨A0, I1, I2, I3⟩, HP, ⟨K8, K9, K10⟩, K12⟩, HO, HW⟩ HQ
  ihave HI := (Entails.of_eq (show stI m c 1 = iprop(inF c (emb m c) (idx 1 0) ∗ inF c (emb m c) (idx 1 1) ∗ inF c (emb m c) (idx 1 2) ∗ inF c (emb m c) (idx 1 3)) from rfl)) $$ I1
  icases HI with ⟨H0, H1, H2, H3⟩
  iapply (stepA c (grid0.coords t0_1) _ _ _ _ _ _ _ _ (emb m c) 1 (by decide +kernel) (by decide +kernel) (by decide) (by decide +kernel)
    (inP m c t0_1) (inW1 m c t0_1) (inB1 m c t0_1) (inW2 m c t0_1) (mvOf m c) (zvOf m c) (pvOf m c) rfl rfl rfl
    iprop((inF c (emb m c) (idx 1 0) ∗ inF c (emb m c) (idx 1 1) ∗ owing c) ∗ inF c (emb m c) (idx 1 2) ∗ inF c (emb m c) (idx 1 3))
    iprop(emp) (fun Q => ?_)) $$ [H0 H1 H2 H3 HO HW K8 K9 K10 K12]
  · iintro ⟨H, H2, H3⟩ HQ
    iapply (part4_next c (grid0.coords t0_1) _ _ _ _ _ _ _ _ (emb m c) 1 (by decide +kernel) (by decide) _) $$ H
    iintro ⟨H0, H1, HO⟩
    iapply HQ
    isplitl [H0]; · iexact H0
    isplitl [H1]; · iexact H1
    isplitl [H2]; · iexact H2
    isplitl [H3]; · iexact H3
    isplitl [HO]; · iexact HO
    iempintro
  · isplitl [H0 H1 H2 H3 HO]
    · isplitl [H0 H1 HO]
      · isplitl [H0]; · iexact H0
        isplitl [H1]; · iexact H1
        iexact HO

      isplitl [H2]; · iexact H2
      iexact H3
    isplitl [HW]; · iexact HW
    isplitl [K8]; · iexact K8
    isplitl [K9]; · iexact K9
    isplitl [K10]; · iexact K10
    iexact K12
  iintro ⟨A1, -, HO, HW, K8, K9, K10, K12⟩
  iapply HQ
  isplitr [HO HW]
  · isplitl [A0 A1 I2 I3]
    · isplitl [A0]; · iexact A0
      isplitl [A1]; · iexact A1
      isplitl [I2]; · iexact I2
      iexact I3
    isplitl [HP]; · iexact HP
    isplitr [K12]
    · isplitl [K8]; · iexact K8
      isplitl [K9]; · iexact K9
      iexact K10
    iexact K12
  isplitl [HO]; · iexact HO
  iexact HW

/-- Point 2: the first pass over block 2. -/
theorem step_2 (c : Dev nD) (Q : PUnit → sProp 𝕄) :
    iprop(at2 m c ∗ owing c ∗ winsT m c t0_2) ⊢ iprop((iprop(at3 m c ∗ owing c ∗ winsT m c t0_2) -∗ Q ⟨⟩) -∗ WP c (bodyAt0 t0_2) Q) := by
  unfold at2 at3 winsT stK
  iintro ⟨⟨⟨A0, A1, I2, I3⟩, HP, ⟨K8, K9, K10⟩, K12⟩, HO, HW⟩ HQ
  ihave HI := (Entails.of_eq (show stI m c 2 = iprop(inF c (emb m c) (idx 2 0) ∗ inF c (emb m c) (idx 2 1) ∗ inF c (emb m c) (idx 2 2) ∗ inF c (emb m c) (idx 2 3)) from rfl)) $$ I2
  icases HI with ⟨H0, H1, H2, H3⟩
  iapply (stepA c (grid0.coords t0_2) _ _ _ _ _ _ _ _ (emb m c) 2 (by decide +kernel) (by decide +kernel) (by decide) (by decide +kernel)
    (inP m c t0_2) (inW1 m c t0_2) (inB1 m c t0_2) (inW2 m c t0_2) (mvOf m c) (zvOf m c) (pvOf m c) rfl rfl rfl
    iprop((inF c (emb m c) (idx 2 0) ∗ inF c (emb m c) (idx 2 1) ∗ owing c) ∗ inF c (emb m c) (idx 2 2) ∗ inF c (emb m c) (idx 2 3))
    iprop(emp) (fun Q => ?_)) $$ [H0 H1 H2 H3 HO HW K8 K9 K10 K12]
  · iintro ⟨H, H2, H3⟩ HQ
    iapply (part4_next c (grid0.coords t0_2) _ _ _ _ _ _ _ _ (emb m c) 2 (by decide +kernel) (by decide) _) $$ H
    iintro ⟨H0, H1, HO⟩
    iapply HQ
    isplitl [H0]; · iexact H0
    isplitl [H1]; · iexact H1
    isplitl [H2]; · iexact H2
    isplitl [H3]; · iexact H3
    isplitl [HO]; · iexact HO
    iempintro
  · isplitl [H0 H1 H2 H3 HO]
    · isplitl [H0 H1 HO]
      · isplitl [H0]; · iexact H0
        isplitl [H1]; · iexact H1
        iexact HO

      isplitl [H2]; · iexact H2
      iexact H3
    isplitl [HW]; · iexact HW
    isplitl [K8]; · iexact K8
    isplitl [K9]; · iexact K9
    isplitl [K10]; · iexact K10
    iexact K12
  iintro ⟨A2, -, HO, HW, K8, K9, K10, K12⟩
  iapply HQ
  isplitr [HO HW]
  · isplitl [A0 A1 A2 I3]
    · isplitl [A0]; · iexact A0
      isplitl [A1]; · iexact A1
      isplitl [A2]; · iexact A2
      iexact I3
    isplitl [HP]; · iexact HP
    isplitr [K12]
    · isplitl [K8]; · iexact K8
      isplitl [K9]; · iexact K9
      iexact K10
    iexact K12
  isplitl [HO]; · iexact HO
  iexact HW

/-- Point 3: the first pass over block 3. -/
theorem step_3 (c : Dev nD) (Q : PUnit → sProp 𝕄) :
    iprop(at3 m c ∗ owing c ∗ winsT m c t0_3) ⊢ iprop((iprop(at4 m c ∗ owing c ∗ winsT m c t0_3) -∗ Q ⟨⟩) -∗ WP c (bodyAt0 t0_3) Q) := by
  unfold at3 at4 winsT stK
  iintro ⟨⟨⟨A0, A1, A2, I3⟩, HP, ⟨K8, K9, K10⟩, K12⟩, HO, HW⟩ HQ
  ihave HI := (Entails.of_eq (show stI m c 3 = iprop(inF c (emb m c) (idx 3 0) ∗ inF c (emb m c) (idx 3 1) ∗ inF c (emb m c) (idx 3 2) ∗ inF c (emb m c) (idx 3 3)) from rfl)) $$ I3
  icases HI with ⟨H0, H1, H2, H3⟩
  iapply (stepA_last c (grid0.coords t0_3) _ _ _ _ _ _ _ _ (emb m c)  (by decide +kernel) (by decide +kernel)  (by decide +kernel)
    (inP m c t0_3) (inW1 m c t0_3) (inB1 m c t0_3) (inW2 m c t0_3) (mvOf m c) (zvOf m c) (pvOf m c) rfl rfl rfl
    iprop((inF c (emb m c) (idx 3 0) ∗ inF c (emb m c) (idx 3 1) ∗ owing c) ∗ inF c (emb m c) (idx 3 2) ∗ inF c (emb m c) (idx 3 3))
    iprop(emp) (fun Q => ?_)) $$ [H0 H1 H2 H3 HO HW K8 K9 K10 K12]
  · iintro ⟨H, H2, H3⟩ HQ
    iapply (part4_next c (grid0.coords t0_3) _ _ _ _ _ _ _ _ (emb m c) 3 (by decide +kernel) (by decide) _) $$ H
    iintro ⟨H0, H1, HO⟩
    iapply HQ
    isplitl [H0]; · iexact H0
    isplitl [H1]; · iexact H1
    isplitl [H2]; · iexact H2
    isplitl [H3]; · iexact H3
    isplitl [HO]; · iexact HO
    iempintro
  · isplitl [H0 H1 H2 H3 HO]
    · isplitl [H0 H1 HO]
      · isplitl [H0]; · iexact H0
        isplitl [H1]; · iexact H1
        iexact HO

      isplitl [H2]; · iexact H2
      iexact H3
    isplitl [HW]; · iexact HW
    isplitl [K8]; · iexact K8
    isplitl [K9]; · iexact K9
    isplitl [K10]; · iexact K10
    iexact K12
  iintro ⟨A3, -, HO, HW, K8, K9, K10, K12⟩
  iapply HQ
  isplitr [HO HW]
  · isplitl [A0 A1 A2 A3]
    · isplitl [A0]; · iexact A0
      isplitl [A1]; · iexact A1
      isplitl [A2]; · iexact A2
      iexact A3
    isplitl [HP]; · iexact HP
    isplitr [K12]
    · isplitl [K8]; · iexact K8
      isplitl [K9]; · iexact K9
      iexact K10
    iexact K12
  isplitl [HO]; · iexact HO
  iexact HW

/-- Point 4: the second pass over block 0. -/
theorem step_4 (c : Dev nD) (Q : PUnit → sProp 𝕄) :
    iprop(at4 m c ∗ owing c ∗ winsT m c t0_4) ⊢ iprop((iprop(at5 m c ∗ owing c ∗ winsT m c t0_4) -∗ Q ⟨⟩) -∗ WP c (bodyAt0 t0_4) Q) := by
  unfold at4 at5 winsT
  iintro ⟨⟨⟨A0, A1, A2, A3⟩, ⟨P0, P1, P2, P3⟩, K, K12⟩, HO, HW⟩ HQ
  ihave H := (show stA m c 0 ⊢ _ from (four_land c (emb m c) 0).1) $$ A0
  icases H with ⟨F, L0⟩
  iapply (stepB c (grid0.coords t0_4) _ _ _ _ _ _ _ _ (emb m c) (outBig m c) (res0 m c) 0 (by decide +kernel) (by decide +kernel) (by decide) (by decide +kernel)
    (inP m c t0_4) (inW1 m c t0_4) (inB1 m c t0_4) (inW2 m c t0_4) (pooledRow m c) (blkRead_outBig m c 0)) $$ [F P0 HO HW K12]
  · isplitl [F]; · iexact F
    isplitl [P0]; · iexact P0
    isplitl [HO]; · iexact HO
    isplitl [HW]; · iexact HW
    iexact K12
  iintro ⟨U0, HO, HW, K12⟩
  iapply HQ
  isplitr [HO HW]
  · isplitr [P1 P2 P3 K K12]
    · isplitl [L0 U0]
      · isplitl [L0]; · iexact L0
        iexact U0
      isplitl [A1]; · iexact A1
      isplitl [A2]; · iexact A2
      iexact A3
    isplitl [P1 P2 P3]
    · isplitl [P1]; · iexact P1
      isplitl [P2]; · iexact P2
      iexact P3
    isplitl [K]; · iexact K
    iexact K12
  isplitl [HO]; · iexact HO
  iexact HW

/-- Point 5: the second pass over block 1. -/
theorem step_5 (c : Dev nD) (Q : PUnit → sProp 𝕄) :
    iprop(at5 m c ∗ owing c ∗ winsT m c t0_5) ⊢ iprop((iprop(at6 m c ∗ owing c ∗ winsT m c t0_5) -∗ Q ⟨⟩) -∗ WP c (bodyAt0 t0_5) Q) := by
  unfold at5 at6 winsT
  iintro ⟨⟨⟨⟨L0, U0⟩, A1, A2, A3⟩, ⟨P1, P2, P3⟩, K, K12⟩, HO, HW⟩ HQ
  ihave H := (show stA m c 1 ⊢ _ from (four_land c (emb m c) 1).1) $$ A1
  icases H with ⟨F, L1⟩
  iapply (stepB c (grid0.coords t0_5) _ _ _ _ _ _ _ _ (emb m c) (outBig m c) (res0 m c) 1 (by decide +kernel) (by decide +kernel) (by decide) (by decide +kernel)
    (inP m c t0_5) (inW1 m c t0_5) (inB1 m c t0_5) (inW2 m c t0_5) (pooledRow m c) (blkRead_outBig m c 1)) $$ [F P1 HO HW K12]
  · isplitl [F]; · iexact F
    isplitl [P1]; · iexact P1
    isplitl [HO]; · iexact HO
    isplitl [HW]; · iexact HW
    iexact K12
  iintro ⟨U1, HO, HW, K12⟩
  iapply HQ
  isplitr [HO HW]
  · isplitr [P2 P3 K K12]
    · isplitl [L0 U0]
      · isplitl [L0]; · iexact L0
        iexact U0
      isplitl [L1 U1]
      · isplitl [L1]; · iexact L1
        iexact U1
      isplitl [A2]; · iexact A2
      iexact A3
    isplitl [P2 P3]
    · isplitl [P2]; · iexact P2
      iexact P3
    isplitl [K]; · iexact K
    iexact K12
  isplitl [HO]; · iexact HO
  iexact HW

/-- Point 6: the second pass over block 2. -/
theorem step_6 (c : Dev nD) (Q : PUnit → sProp 𝕄) :
    iprop(at6 m c ∗ owing c ∗ winsT m c t0_6) ⊢ iprop((iprop(at7 m c ∗ owing c ∗ winsT m c t0_6) -∗ Q ⟨⟩) -∗ WP c (bodyAt0 t0_6) Q) := by
  unfold at6 at7 winsT
  iintro ⟨⟨⟨⟨L0, U0⟩, ⟨L1, U1⟩, A2, A3⟩, ⟨P2, P3⟩, K, K12⟩, HO, HW⟩ HQ
  ihave H := (show stA m c 2 ⊢ _ from (four_land c (emb m c) 2).1) $$ A2
  icases H with ⟨F, L2⟩
  iapply (stepB c (grid0.coords t0_6) _ _ _ _ _ _ _ _ (emb m c) (outBig m c) (res0 m c) 2 (by decide +kernel) (by decide +kernel) (by decide) (by decide +kernel)
    (inP m c t0_6) (inW1 m c t0_6) (inB1 m c t0_6) (inW2 m c t0_6) (pooledRow m c) (blkRead_outBig m c 2)) $$ [F P2 HO HW K12]
  · isplitl [F]; · iexact F
    isplitl [P2]; · iexact P2
    isplitl [HO]; · iexact HO
    isplitl [HW]; · iexact HW
    iexact K12
  iintro ⟨U2, HO, HW, K12⟩
  iapply HQ
  isplitr [HO HW]
  · isplitr [P3 K K12]
    · isplitl [L0 U0]
      · isplitl [L0]; · iexact L0
        iexact U0
      isplitl [L1 U1]
      · isplitl [L1]; · iexact L1
        iexact U1
      isplitl [L2 U2]
      · isplitl [L2]; · iexact L2
        iexact U2
      iexact A3
    isplitl [P3]; · iexact P3
    isplitl [K]; · iexact K
    iexact K12
  isplitl [HO]; · iexact HO
  iexact HW

/-- Point 7: the second pass over block 3. -/
theorem step_7 (c : Dev nD) (Q : PUnit → sProp 𝕄) :
    iprop(at7 m c ∗ owing c ∗ winsT m c t0_7) ⊢ iprop((iprop(at8 m c ∗ owing c ∗ winsT m c t0_7) -∗ Q ⟨⟩) -∗ WP c (bodyAt0 t0_7) Q) := by
  unfold at7 at8 winsT
  iintro ⟨⟨⟨⟨L0, U0⟩, ⟨L1, U1⟩, ⟨L2, U2⟩, A3⟩, P3, K, K12⟩, HO, HW⟩ HQ
  ihave H := (show stA m c 3 ⊢ _ from (four_land c (emb m c) 3).1) $$ A3
  icases H with ⟨F, L3⟩
  ihave H := (Entails.of_eq (show stU m c 0 = iprop(outF c (outBig m c) 0 ∗ outF c (outBig m c) 1 ∗ outF c (outBig m c) 2 ∗ outF c (outBig m c) 3) from rfl)) $$ U0
  icases H with ⟨H0, H1, H2, H3⟩
  ihave H := (Entails.of_eq (show stU m c 1 = iprop(outF c (outBig m c) 4 ∗ outF c (outBig m c) 5 ∗ outF c (outBig m c) 6 ∗ outF c (outBig m c) 7) from rfl)) $$ U1
  icases H with ⟨H4, H5, H6, H7⟩
  ihave H := (Entails.of_eq (show stU m c 2 = iprop(outF c (outBig m c) 8 ∗ outF c (outBig m c) 9 ∗ outF c (outBig m c) 10 ∗ outF c (outBig m c) 11) from rfl)) $$ U2
  icases H with ⟨H8, H9, H10, H11⟩
  iapply (stepB_last c (grid0.coords t0_7) _ _ _ _ _ _ _ _ (emb m c) (outBig m c) (res0 m c)  (by decide +kernel) (by decide +kernel)  (by decide +kernel)
    (inP m c t0_7) (inW1 m c t0_7) (inB1 m c t0_7) (inW2 m c t0_7) (pooledRow m c) (blkRead_outBig m c 3)) $$ [F P3 HO HW K12 H0 H1 H2 H3 H4 H5 H6 H7 H8 H9 H10 H11]
  · isplitl [F]; · iexact F
    isplitl [P3]; · iexact P3
    isplitl [HO]; · iexact HO
    isplitl [HW]; · iexact HW
    isplitl [K12]; · iexact K12
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iintro ⟨H0, H1, H2, H3, H4, H5, H6, H7, H8, H9, H10, H11, H12, H13, H14, H15, HO, HW, K12⟩
  iapply HQ
  isplitr [HO HW]
  · isplitl [L0 L1 L2 L3]
    · isplitl [L0]; · iexact L0
      isplitl [L1]; · iexact L1
      isplitl [L2]; · iexact L2
      iexact L3
    isplitr [K K12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15
    isplitl [K]; · iexact K
    iexact K12
  isplitl [HO]; · iexact HO
  iexact HW

/-- Every point of the grid takes the state before it to the state after it. -/
theorem step_at (c : Dev nD) (t : Fin cfg0.N) (Q : PUnit → sProp 𝕄) :
    iprop(inv m c t.val ∗ owing c ∗ winsT m c t) ⊢ iprop((iprop(inv m c (t.val + 1) ∗ owing c ∗ winsT m c t) -∗ Q ⟨⟩) -∗ WP c (bodyAt0 t) Q) := by
  rcases fin_N0 t with rfl | rfl | rfl | rfl | rfl | rfl | rfl | rfl
  · exact step_0 m c Q
  · exact step_1 m c Q
  · exact step_2 m c Q
  · exact step_3 m c Q
  · exact step_4 m c Q
  · exact step_5 m c Q
  · exact step_6 m c Q
  · exact step_7 m c Q

/-! ## The proof data and the body's obligation -/

/-- The proof data of the one pipeline on core `c`: the arrays as the region finds them, each window left as it was found, `inv` held
    between the points, nothing owed, full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
  Φ n := inv m c n.val
  q _ := fullShare
  owed _ := 0

/-- A window reads the array as the region finds it. -/
theorem A_eq (c : Dev nD) (w : Fin cfg0.W) : (dats m 0 c).A w = V m c (Pipeline.arrRef spec0 w) := by
  dsimp only [dats]
/-- Window 0 holds its block after a point. -/
theorem after_0 (c : Dev nD) (t : Fin cfg0.N) : (dats m 0 c).after 0 t = iblk m c 0 t := by dsimp only [dats]
/-- Window 1 holds its block after a point. -/
theorem after_1 (c : Dev nD) (t : Fin cfg0.N) : (dats m 0 c).after 1 t = iblk m c 1 t := by dsimp only [dats]
/-- Window 2 holds its block after a point. -/
theorem after_2 (c : Dev nD) (t : Fin cfg0.N) : (dats m 0 c).after 2 t = iblk m c 2 t := by dsimp only [dats]
/-- Window 3 holds its block after a point. -/
theorem after_3 (c : Dev nD) (t : Fin cfg0.N) : (dats m 0 c).after 3 t = iblk m c 3 t := by dsimp only [dats]
/-- Window 0 holds its block before a point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
/-- Window 1 holds its block before a point. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
/-- Window 2 holds its block before a point. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
/-- Window 3 holds its block before a point. -/
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at a point, from the pipeline's state before it to that after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = inv m c (t.val + 1) from rfl, show (dats m 0 c).Φ t.castSucc = inv m c t.val from rfl,
    after_0, after_1, after_2, after_3]
  unfold Dat.owesAt Pipeline.owesWithin
  rw [show (dats m 0 c).owed t.castSucc = 0 from rfl, show (dats m 0 c).owed t.succ = 0 from rfl]
  iintro ⟨HI, ⟨%W, -, HW⟩, ⟨%d0, H0⟩, ⟨%d1, H1⟩, ⟨%d2, H2⟩, ⟨%d3, H3⟩⟩
  rw [before_0, before_1, before_2, before_3]
  iapply (step_at m c t (fun _ => _)) $$ [HI HW H0 H1 H2 H3]
  · isplitl [HI]; · iexact HI
    isplitl [HW]; · unfold owing; iexists W; iexact HW
    unfold winsT wins inP inW1 inB1 inW2
    isplitl [H0]; · iexact H0
    isplitl [H1]; · iexact H1
    isplitl [H2]; · iexact H2
    iexact H3
  unfold owing winsT wins inP inW1 inB1 inW2
  iintro ⟨HI, ⟨%W', HW'⟩, H0, H1, H2, H3⟩
  isplitl [HI]; · iexact HI
  isplitl [HW']
  · iexists W'; isplitr; · ipureintro; exact fun _ _ => Or.inl trivial
    iexact HW'
  isplitl [H0]; · iexact H0
  isplitl [H1]; · iexact H1
  isplitl [H2]; · iexact H2
  iexact H3

/-- The body that the launch calls at a point. -/
theorem defs₀_row (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## Entering and leaving the region -/

/-- The body's own transfer semaphores. -/
def osem0 (k : Fin 2 × Fin 16) : SemLoc sig := .dma (csem (if k.1 = 0 then cc0_scratch5 else cc0_scratch6) k.2)

/-- The transfer semaphores are the body's own. -/
theorem ownSemFacts0 : Pipeline.OwnSemFacts spec0 osem0 := by decide +kernel

abbrev H0 : Finset (Ref sig .tc) := {main_v0}
abbrev R0 : Finset (Ref sig .tc) := {main_v6}

/-- The rows copied in are no window. -/
theorem H0_sub : H0 ⊆ Pipeline.restRefs sig spec0 := by decide +kernel
/-- The rows copied out are no window. -/
theorem R0_sub : R0 ⊆ Pipeline.restRefs sig spec0 \ H0 := by decide +kernel

/-- What the region leaves: the result's buffer at the result. -/
def G0 (c : Dev nD) : (b : Ref sig .tc) → Buf (Elt F) ((c : Thread nD τ).loc b) :=
  Function.update (fun b => V m c b) main_v6 (outBig m c)

/-- A product over sixteen is its sixteen factors. -/
theorem bigSep_16 (P : Fin 16 → sProp 𝕄) :
    bigSep Finset.univ P = iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15) := by
  rw [BI.bigSep_univ_eq_bigSepL [0, 1, 2, 3, 4, 5, 6, 7, 8, 9, 10, 11, 12, 13, 14, 15] (by decide) (by decide)]
  rfl

/-- and four by four. -/
theorem bigSep_44 (P : Fin 16 → sProp 𝕄) :
    bigSep Finset.univ P ⊣⊢ iprop(four P 0 ∗ four P 1 ∗ four P 2 ∗ four P 3) := by
  rw [bigSep_16]
  constructor
  · iintro ⟨H0, H1, H2, H3, H4, H5, H6, H7, H8, H9, H10, H11, H12, H13, H14, H15⟩
    unfold four
    isplitl [H0 H1 H2 H3]
    · isplitl [H0]; · iapply (Entails.of_eq (show P 0 = P (idx 0 0) from rfl)) $$ H0
      isplitl [H1]; · iapply (Entails.of_eq (show P 1 = P (idx 0 1) from rfl)) $$ H1
      isplitl [H2]; · iapply (Entails.of_eq (show P 2 = P (idx 0 2) from rfl)) $$ H2
      iapply (Entails.of_eq (show P 3 = P (idx 0 3) from rfl)) $$ H3
    isplitl [H4 H5 H6 H7]
    · isplitl [H4]; · iapply (Entails.of_eq (show P 4 = P (idx 1 0) from rfl)) $$ H4
      isplitl [H5]; · iapply (Entails.of_eq (show P 5 = P (idx 1 1) from rfl)) $$ H5
      isplitl [H6]; · iapply (Entails.of_eq (show P 6 = P (idx 1 2) from rfl)) $$ H6
      iapply (Entails.of_eq (show P 7 = P (idx 1 3) from rfl)) $$ H7
    isplitl [H8 H9 H10 H11]
    · isplitl [H8]; · iapply (Entails.of_eq (show P 8 = P (idx 2 0) from rfl)) $$ H8
      isplitl [H9]; · iapply (Entails.of_eq (show P 9 = P (idx 2 1) from rfl)) $$ H9
      isplitl [H10]; · iapply (Entails.of_eq (show P 10 = P (idx 2 2) from rfl)) $$ H10
      iapply (Entails.of_eq (show P 11 = P (idx 2 3) from rfl)) $$ H11
    isplitl [H12]; · iapply (Entails.of_eq (show P 12 = P (idx 3 0) from rfl)) $$ H12
    isplitl [H13]; · iapply (Entails.of_eq (show P 13 = P (idx 3 1) from rfl)) $$ H13
    isplitl [H14]; · iapply (Entails.of_eq (show P 14 = P (idx 3 2) from rfl)) $$ H14
    iapply (Entails.of_eq (show P 15 = P (idx 3 3) from rfl)) $$ H15
  · unfold four
    iintro ⟨⟨H0, H1, H2, H3⟩, ⟨H4, H5, H6, H7⟩, ⟨H8, H9, H10, H11⟩, ⟨H12, H13, H14, H15⟩⟩
    isplitl [H0]; · iapply (Entails.of_eq (show P (idx 0 0) = P 0 from rfl)) $$ H0
    isplitl [H1]; · iapply (Entails.of_eq (show P (idx 0 1) = P 1 from rfl)) $$ H1
    isplitl [H2]; · iapply (Entails.of_eq (show P (idx 0 2) = P 2 from rfl)) $$ H2
    isplitl [H3]; · iapply (Entails.of_eq (show P (idx 0 3) = P 3 from rfl)) $$ H3
    isplitl [H4]; · iapply (Entails.of_eq (show P (idx 1 0) = P 4 from rfl)) $$ H4
    isplitl [H5]; · iapply (Entails.of_eq (show P (idx 1 1) = P 5 from rfl)) $$ H5
    isplitl [H6]; · iapply (Entails.of_eq (show P (idx 1 2) = P 6 from rfl)) $$ H6
    isplitl [H7]; · iapply (Entails.of_eq (show P (idx 1 3) = P 7 from rfl)) $$ H7
    isplitl [H8]; · iapply (Entails.of_eq (show P (idx 2 0) = P 8 from rfl)) $$ H8
    isplitl [H9]; · iapply (Entails.of_eq (show P (idx 2 1) = P 9 from rfl)) $$ H9
    isplitl [H10]; · iapply (Entails.of_eq (show P (idx 2 2) = P 10 from rfl)) $$ H10
    isplitl [H11]; · iapply (Entails.of_eq (show P (idx 2 3) = P 11 from rfl)) $$ H11
    isplitl [H12]; · iapply (Entails.of_eq (show P (idx 3 0) = P 12 from rfl)) $$ H12
    isplitl [H13]; · iapply (Entails.of_eq (show P (idx 3 1) = P 13 from rfl)) $$ H13
    isplitl [H14]; · iapply (Entails.of_eq (show P (idx 3 2) = P 14 from rfl)) $$ H14
    iapply (Entails.of_eq (show P (idx 3 3) = P 15 from rfl)) $$ H15

/-- The array copied in is its sixteen chunks. -/
theorem chunks_M2 (c : Dev nD) (X : Big F) :
    (((c : Thread nD τ).loc main_v0) ↦{fullShare} X : sProp 𝕄) = bigSep Finset.univ fun b => chk c M2 b X := by
  unfold chk
  exact Ring.pointsTo_blocks (ℓ := (c : Thread nD τ).loc main_v0) (fun b : Fin 16 => (ch M2 b).view.set) (fun b b' h => by
    show Disjoint (ch M2 b).view.set (ch M2 b').view.set
    rw [show (ch M2 b).view.set = (chR b).set from View.set_slice_whole _ _, show (ch M2 b').view.set = (chR b').set from View.set_slice_whole _ _]
    exact chR_disjoint b b' h) ((congrArg _ (funext fun b => View.set_slice_whole _ _)).trans chR_cover) X

/-- The array copied out is its sixteen chunks. -/
theorem chunks_M7 (c : Dev nD) (X : Big F) :
    (((c : Thread nD τ).loc main_v6) ↦{fullShare} X : sProp 𝕄) = bigSep Finset.univ fun b => chk c M7 b X := by
  unfold chk
  exact Ring.pointsTo_blocks (ℓ := (c : Thread nD τ).loc main_v6) (fun b : Fin 16 => (ch M7 b).view.set) (fun b b' h => by
    show Disjoint (ch M7 b).view.set (ch M7 b').view.set
    rw [show (ch M7 b).view.set = (chR b).set from View.set_slice_whole _ _, show (ch M7 b').view.set = (chR b').set from View.set_slice_whole _ _]
    exact chR_disjoint b b' h) ((congrArg _ (funext fun b => View.set_slice_whole _ _)).trans chR_cover) X

/-- The scratch of rows is its sixteen chunks. -/
theorem chunks_M11 (c : Dev nD) (X : Big F) :
    (((c : Thread nD τ).loc cc0_scratch3) ↦{fullShare} X : sProp 𝕄) = bigSep Finset.univ fun b => chk c M11 b X := by
  unfold chk
  exact Ring.pointsTo_blocks (ℓ := (c : Thread nD τ).loc cc0_scratch3) (fun b : Fin 16 => (ch M11 b).view.set) (fun b b' h => by
    show Disjoint (ch M11 b).view.set (ch M11 b').view.set
    rw [show (ch M11 b).view.set = (chR b).set from View.set_slice_whole _ _, show (ch M11 b').view.set = (chR b').set from View.set_slice_whole _ _]
    exact chR_disjoint b b' h) ((congrArg _ (funext fun b => View.set_slice_whole _ _)).trans chR_cover) X

/-- The transfer semaphores are those of the copies in and those of the copies out. -/
theorem sems_eq (c : Dev nD) :
    (Pipeline.ownSems0 (Ix := Unit) (Name := ℕ) (U := Pipeline.UD sig nD τ) (Lvl := ℕ) (Val := Elt F) (τ := τ) osem0 c : sProp 𝕄)
      = iprop(bigSep Finset.univ (s13 c) ∗ bigSep Finset.univ (s14 c)) := by
  unfold Pipeline.ownSems0
  rw [BI.bigSep_univ_prod, BI.bigSep_univ_eq_bigSepL [0, 1] (by decide) (by decide)]
  rfl

/-- What the region is entered with is the state before the first point. -/
theorem enter (c : Dev nD) :
    Pipeline.ΦDRV osem0 spec0 H0 R0 (fun c b => V m c b) (fun c b => V m c b) c ⊢ inv m c 0 := by
  unfold Pipeline.ΦDRV
  rw [scopedRest0_eq, sems_eq, BI.bigSep_singleton, BI.bigSep_singleton]
  show _ ⊢ at0 m c
  unfold at0 stK
  beta_reduce
  iintro ⟨⟨⟨%f2, S2⟩, ⟨%f3, S3⟩, ⟨%f4, S4⟩, ⟨%f0, S0⟩, ⟨%f1, S1⟩⟩, ⟨HA, HB⟩, HE, HR⟩
  ihave HE := (Entails.of_eq (show (((c : Thread nD τ).loc main_v0) ↦{fullShare} V m c main_v0 : sProp 𝕄) = _ from chunks_M2 c (emb m c))) $$ HE
  ihave HR := (Entails.of_eq (show (((c : Thread nD τ).loc main_v6) ↦{fullShare} V m c main_v6 : sProp 𝕄) = _ from chunks_M7 c (res0 m c))) $$ HR
  ihave S3 := (Entails.of_eq (chunks_M11 c f3)) $$ S3
  iexists f3
  isplitl [HE S3 HA]
  · iapply (Entails.of_eq (bigSep_16 (pre c (emb m c) f3)))
    unfold pre
    rw [BI.bigSep_sep', BI.bigSep_sep']
    isplitl [HE]; · iexact HE
    isplitl [S3]; · iexact S3
    iexact HA
  isplitl [HR HB]
  · iapply (bigSep_44 (preO c (res0 m c))).1
    unfold preO
    rw [BI.bigSep_sep']
    isplitl [HR]; · iexact HR
    iexact HB
  isplitr [S4]
  · unfold wordsAt rowsAt
    isplitl [S0]
    · iexists f0; isplitr; · ipureintro; exact fun k hk => absurd hk (Nat.not_lt_zero _)
      iexact S0
    isplitl [S1]
    · iexists f1; isplitr; · ipureintro; exact fun k hk => absurd hk (Nat.not_lt_zero _)
      iexact S1
    iexists f2; isplitr; · ipureintro; exact fun k hk => absurd hk (Nat.not_lt_zero _)
    iexact S2
  unfold poolAny
  iexists f4; iexact S4

/-- The state after the last point is what the region is left with. -/
theorem leave (c : Dev nD) :
    inv m c 8 ⊢ Pipeline.ΦDRV osem0 spec0 H0 R0 (fun c b => V m c b) (G0 m) c := by
  unfold Pipeline.ΦDRV
  rw [scopedRest0_eq, sems_eq, BI.bigSep_singleton, BI.bigSep_singleton]
  show at8 m c ⊢ _
  unfold at8 stK
  beta_reduce
  iintro ⟨HL, HO, ⟨K8, K9, K10⟩, K12⟩
  ihave HL := (bigSep_44 (fun b => iprop(chk c M2 b (emb m c) ∗ s13 c b))).2 $$ HL
  ihave HL := (Entails.of_eq (BI.bigSep_sep' Finset.univ (fun b => chk c M2 b (emb m c)) (fun b => s13 c b))) $$ HL
  icases HL with ⟨HE, HA⟩
  ihave HO := (Entails.of_eq (bigSep_16 (landO c (outBig m c))).symm) $$ HO
  unfold landO
  ihave HO := (Entails.of_eq (BI.bigSep_sep' Finset.univ (fun b => chk c M7 b (outBig m c)) (fun b => iprop(chk c M11 b (outBig m c) ∗ s14 c b)))) $$ HO
  icases HO with ⟨HR, HO⟩
  ihave HO := (Entails.of_eq (BI.bigSep_sep' Finset.univ (fun b => chk c M11 b (outBig m c)) (fun b => s14 c b))) $$ HO
  icases HO with ⟨S3, HB⟩
  ihave HE := (Entails.of_eq (chunks_M2 c (emb m c)).symm) $$ HE
  ihave HR := (Entails.of_eq (chunks_M7 c (outBig m c)).symm) $$ HR
  ihave S3 := (Entails.of_eq (chunks_M11 c (outBig m c)).symm) $$ S3
  unfold wordsAt rowsAt poolAt
  icases K8 with ⟨%f0, -, S0⟩
  icases K9 with ⟨%f1, -, S1⟩
  icases K10 with ⟨%f2, -, S2⟩
  icases K12 with ⟨%f4, -, S4⟩
  isplitl [S0 S1 S2 S3 S4]
  · isplitl [S2]; · iexists f2; iexact S2
    isplitl [S3]; · iexists (outBig m c); iexact S3
    isplitl [S4]; · iexists f4; iexact S4
    isplitl [S0]; · iexists f0; iexact S0
    iexists f1; iexact S1
  isplitl [HA HB]
  · isplitl [HA]; · iexact HA
    iexact HB
  isplitl [HE]; · iexact HE
  rw [show G0 m c main_v6 = outBig m c from Function.update_self _ _ _]
  iexact HR

/-! ## The run -/

/-- @main around the region, at the transfers' ghost state. -/
theorem hmainD : Pipeline.HMainK (Ix := Unit) (Name := ℕ) (U := Pipeline.UD sig nD τ) (Lvl := ℕ) cfgs 0 defs₀ Variants.none m (main (F := F))
      (V m) (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- A core's buffers after the whole program. -/
def endVal (c : Dev nD) : Valuation τ sig (Elt F) :=
  StableHlo.after (List.flatten [hostOps1]) (Pipeline.withArrays spec0 c (Pipeline.withR (V0 m c) R0 c (G0 m c)) fun w => (dats m 0 c).arrAt w cfg0.N)

set_option backward.isDefEq.respectTransparency.types false in
/-- The whole program runs; every buffer no window stages ends at `endVal`, and every semaphore at zero. -/
theorem run_main : θ_run defs (onTc (τ := τ) (main (F := F))) (s₀ m ρ) (fun r =>
    (∀ c : Dev nD, ∀ b ∈ Pipeline.restRefs sig spec0, r.2.mem ((c.tc : Thread nD τ).loc b) = endVal m c (Proc.devRef .tc b))
      ∧ r.2.sem = fun _ => 0) :=
  Pipeline.θ_run_frame_dmaR_aroundV (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := G0 m) (hmain := hmainD m) (hA := A_eq m) (hin := enter m) (hout := leave m)
    (hQ' := fun r h => ⟨fun c b hb => (h.1 c).2 b hb, h.2⟩)

/-- Argument 0 ends as it began. -/
theorem end_arg0 (c : Dev nD) : endVal m c (Proc.devRef .tc main_arg0) = m ((c : Thread nD τ).loc main_arg0) := by
  unfold endVal
  rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c _ _ main_arg0 (by exact (by decide : ∀ w, Pipeline.arrRef spec0 w ≠ main_arg0))]
  exact (Pipeline.withR_of_not_mem (V0 m c) R0 c (G0 m c) main_arg0 (by decide)).trans (V_main_arg0 m c)
/-- Argument 1 ends as it began. -/
theorem end_arg1 (c : Dev nD) : endVal m c (Proc.devRef .tc main_arg1) = m ((c : Thread nD τ).loc main_arg1) := by
  unfold endVal
  rw [StableHlo.after_of_forall_not_mem (b := Proc.devRef .tc main_arg1) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c _ _ main_arg1 (by exact (by decide : ∀ w, Pipeline.arrRef spec0 w ≠ main_arg1))]
  exact (Pipeline.withR_of_not_mem (V0 m c) R0 c (G0 m c) main_arg1 (by decide)).trans (V_main_arg1 m c)
/-- Argument 2 ends as it began. -/
theorem end_arg2 (c : Dev nD) : endVal m c (Proc.devRef .tc main_arg2) = m ((c : Thread nD τ).loc main_arg2) := by
  unfold endVal
  rw [StableHlo.after_of_forall_not_mem (b := Proc.devRef .tc main_arg2) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c _ _ main_arg2 (by exact (by decide : ∀ w, Pipeline.arrRef spec0 w ≠ main_arg2))]
  exact (Pipeline.withR_of_not_mem (V0 m c) R0 c (G0 m c) main_arg2 (by decide)).trans (V_main_arg2 m c)
/-- Argument 3 ends as it began. -/
theorem end_arg3 (c : Dev nD) : endVal m c (Proc.devRef .tc main_arg3) = m ((c : Thread nD τ).loc main_arg3) := by
  unfold endVal
  rw [StableHlo.after_of_forall_not_mem (b := Proc.devRef .tc main_arg3) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c _ _ main_arg3 (by exact (by decide : ∀ w, Pipeline.arrRef spec0 w ≠ main_arg3))]
  exact (Pipeline.withR_of_not_mem (V0 m c) R0 c (G0 m c) main_arg3 (by decide)).trans (V_main_arg3 m c)
/-- Argument 4 ends as it began. -/
theorem end_arg4 (c : Dev nD) : endVal m c (Proc.devRef .tc main_arg4) = m ((c : Thread nD τ).loc main_arg4) := by
  unfold endVal
  rw [StableHlo.after_of_forall_not_mem (b := Proc.devRef .tc main_arg4) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c _ _ main_arg4 (by exact (by decide : ∀ w, Pipeline.arrRef spec0 w ≠ main_arg4))]
  exact (Pipeline.withR_of_not_mem (V0 m c) R0 c (G0 m c) main_arg4 (by decide)).trans (V_main_arg4 m c)
/-- Argument 5 ends as it began. -/
theorem end_arg5 (c : Dev nD) : endVal m c (Proc.devRef .tc main_arg5) = m ((c : Thread nD τ).loc main_arg5) := by
  unfold endVal
  rw [StableHlo.after_of_forall_not_mem (b := Proc.devRef .tc main_arg5) _ _ (List.forall_iff_forall_mem.mp (by
      simp only [hostOps1, List.flatten_cons, List.flatten_nil, List.append_nil, List.Forall, StableHlo.reshape_writes, Finset.mem_singleton]
      exact StableHlo.devRef_ne_of_ne (by decide))),
    Pipeline.withArrays_of_ne _ c _ _ main_arg5 (by exact (by decide : ∀ w, Pipeline.arrRef spec0 w ≠ main_arg5))]
  exact (Pipeline.withR_of_not_mem (V0 m c) R0 c (G0 m c) main_arg5 (by decide)).trans (V_main_arg5 m c)

/-- The region leaves every block's result in its array. -/
theorem end_v6 (c : Dev nD) : Pipeline.withArrays spec0 c (Pipeline.withR (V0 m c) R0 c (G0 m c)) (fun w => (dats m 0 c).arrAt w cfg0.N)
    (Proc.devRef .tc main_v6) = outBig m c := by
  rw [Pipeline.withArrays_of_ne _ c _ _ main_v6 (by exact (by decide : ∀ w, Pipeline.arrRef spec0 w ≠ main_v6))]
  exact (Pipeline.withR_of_mem (V0 m c) R0 c (G0 m c) main_v6 (by decide)).trans (Function.update_self _ _ _)

/-- The result: the rows the second pass wrote, at the result's own shape. -/
def outVal (c : Dev nD) : S16x2048x256.Idx → Elt F .f32 := shapeCast S16x2048x256 (outBig m c) shapeCasts_S32768x256_S16x2048x256

/-- The result is the region's array at the result's own shape. -/
theorem end_v7 (c : Dev nD) : endVal m c (Proc.devRef .tc main_v7) = outVal m c := by
  unfold endVal outVal
  rw [← end_v6 m c]
  generalize (Pipeline.withArrays spec0 c (Pipeline.withR (V0 m c) R0 c (G0 m c)) (fun w => (dats m 0 c).arrAt w cfg0.N)) = W
  simp only [List.flatten_cons, List.flatten_nil, List.append_nil, hostOps1, StableHlo.after_cons, StableHlo.after_nil]
  exact StableHlo.reshape_result main_v6 main_v7 rfl shapeCasts_S32768x256_S16x2048x256 _ _ W

/-- The whole program's run, at the result and the arguments. -/
theorem run_all : θ_run defs (onTc (τ := τ) (main (F := F))) ⟨m, fun _ => 0, ρ⟩ (fun r =>
    (∀ c : Dev nD, r.2.mem ((c.tc : Thread nD τ).loc main_v7) = outVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c main_v7 (Pipeline.mem_restRefs_of main_v7 (by decide) (by decide))).trans (end_v7 m c),
      (h.1 c main_arg0 (Pipeline.mem_restRefs_of main_arg0 (by decide) (by decide))).trans (end_arg0 m c),
      (h.1 c main_arg1 (Pipeline.mem_restRefs_of main_arg1 (by decide) (by decide))).trans (end_arg1 m c),
      (h.1 c main_arg2 (Pipeline.mem_restRefs_of main_arg2 (by decide) (by decide))).trans (end_arg2 m c),
      (h.1 c main_arg3 (Pipeline.mem_restRefs_of main_arg3 (by decide) (by decide))).trans (end_arg3 m c),
      (h.1 c main_arg4 (Pipeline.mem_restRefs_of main_arg4 (by decide) (by decide))).trans (end_arg4 m c),
      (h.1 c main_arg5 (Pipeline.mem_restRefs_of main_arg5 (by decide) (by decide))).trans (end_arg5 m c)⟩, h.2⟩) (run_main m ρ)

/-- The frame: the arguments unchanged and every semaphore at zero. -/
theorem quiescent : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_all m ρ)

end Cert.KernelIdeal.Hand

end
-- ==== Proof.Pool.lean ====
/-
  Softmax pooling on the extended reals: in blocks, each block's weights taken against the block's own maximum and
  rescaled at the end, and in one go, are the same weighted sum.
-/
module

public import Idealize.ShloMosaic.PureOps.Ideal
public import Mathlib.Data.EReal.Operations
public import Mathlib.Data.EReal.Inv

@[expose] public section

noncomputable section

namespace Cert.Pool

open Idealize.ShloMosaic

variable {κ : Type} [Fintype κ] (med : κ → Prop) [DecidablePred med] (s : κ → ℝ)

/-- The masked scores. -/
def masked (r : κ) : EReal := if med r then (s r : EReal) else ⊥

/-- Their maximum. -/
def top : EReal := Finset.univ.fold max ⊥ (masked med s)

/-- No row taking part, the maximum is bottom. -/
theorem top_none (h : ∀ r, ¬ med r) : top med s = ⊥ := by
  unfold top
  refine le_bot_iff.mp ((Finset.fold_max_le _).mpr ⟨le_rfl, fun r _ => ?_⟩)
  simp [masked, h r]

/-- The maximum is below the top. -/
theorem top_lt : top med s < ⊤ := by
  refine (Finset.fold_max_lt _).mpr ⟨bot_lt_top, fun r _ => ?_⟩
  unfold masked
  split
  · exact EReal.coe_lt_top _
  · exact bot_lt_top

/-- Some row taking part, the maximum is real. -/
theorem top_real (h : ∃ r, med r) : ∃ μ : ℝ, top med s = μ := by
  obtain ⟨r, hr⟩ := h
  have h1 : (s r : EReal) ≤ top med s :=
    (Finset.le_fold_max _).mpr (Or.inr ⟨r, Finset.mem_univ r, by simp [masked, hr]⟩)
  have h2 := top_lt med s
  have h3 : top med s ≠ ⊥ := fun e => by
    rw [e] at h1
    exact absurd (le_bot_iff.mp h1) (EReal.coe_ne_bot _)
  exact ⟨(top med s).toReal, (EReal.coe_toReal h2.ne h3).symm⟩

/-- A sum of reals is real. -/
theorem coe_sum {ι : Type} (u : Finset ι) (f : ι → ℝ) : ((∑ i ∈ u, f i : ℝ) : EReal) = ∑ i ∈ u, (f i : EReal) := by
  classical
  induction u using Finset.induction_on with
  | empty => simp
  | insert a u ha ih => rw [Finset.sum_insert ha, Finset.sum_insert ha, EReal.coe_add, ih]

/-- A real factor that is not negative goes inside a sum. -/
theorem sum_mul_coe {ι : Type} (u : Finset ι) (f : ι → EReal) (γ : ℝ) (hγ : 0 ≤ γ) :
    (∑ i ∈ u, f i) * (γ : EReal) = ∑ i ∈ u, f i * (γ : EReal) := by
  classical
  induction u using Finset.induction_on with
  | empty => simp
  | insert a u ha ih =>
    rw [Finset.sum_insert ha, Finset.sum_insert ha, ← ih,
      EReal.right_distrib_of_nonneg_of_ne_top (by exact_mod_cast hγ) (EReal.coe_ne_top γ)]

/-- A row's weight against the maximum `M`. -/
def wt (M : ℝ) (r : κ) : ℝ := if med r then Real.exp (s r - M) else 0

/-- A weight is nonnegative. -/
theorem wt_nonneg (M : ℝ) (r : κ) : 0 ≤ wt med s M r := by
  unfold wt; split
  · exact (Real.exp_pos _).le
  · exact le_rfl

/-- A weight against any offset is the plain weight rescaled. -/
theorem wt_shift (M : ℝ) (r : κ) : wt med s M r = wt med s 0 r * Real.exp (-M) := by
  unfold wt; split
  · rw [← Real.exp_add]; congr 1; ring
  · rw [zero_mul]

/-- The exponential of a masked score against an offset is the weight. -/
theorem exp_masked (M : ℝ) (r : κ) : Ideal.exp (masked med s r - (M : EReal)) = (wt med s M r : EReal) := by
  unfold masked wt
  split
  · rw [← EReal.coe_sub, Ideal.exp_coe]
  · rw [EReal.bot_sub, Ideal.exp_bot, EReal.coe_zero]

/-- One block: its weights against its own maximum, rescaled to the maximum `M` of all blocks. -/
theorem block (M : ℝ) : ∃ (γ : ℝ) (p : κ → ℝ), 0 ≤ γ ∧ Ideal.exp (top med s - (M : EReal)) = (γ : EReal)
    ∧ (∀ r, Ideal.exp (masked med s r - top med s) = (p r : EReal)) ∧ ∀ r, p r * γ = wt med s M r := by
  by_cases h : ∃ r, med r
  · obtain ⟨μ, hμ⟩ := top_real med s h
    refine ⟨Real.exp (μ - M), wt med s μ, (Real.exp_pos _).le, ?_, fun r => ?_, fun r => ?_⟩
    · rw [hμ, ← EReal.coe_sub, Ideal.exp_coe]
    · rw [hμ, exp_masked]
    · rw [wt_shift med s μ, wt_shift med s M, mul_assoc, ← Real.exp_add]; congr 2; ring
  · have h' : ∀ r, ¬ med r := fun r hr => h ⟨r, hr⟩
    refine ⟨0, fun _ => 0, le_rfl, ?_, fun r => ?_, fun r => ?_⟩
    · rw [top_none med s h', EReal.bot_sub, Ideal.exp_bot, EReal.coe_zero]
    · rw [top_none med s h']
      unfold masked
      rw [if_neg (h' r), EReal.bot_sub, Ideal.exp_bot, EReal.coe_zero]
    · unfold wt; rw [if_neg (h' r), zero_mul]

/-- The block's sum of weights, rescaled. -/
theorem block_sum (M : ℝ) :
    (∑ r, Ideal.exp (masked med s r - top med s)) * Ideal.exp (top med s - (M : EReal)) = ((∑ r, wt med s M r : ℝ) : EReal) := by
  obtain ⟨γ, p, hγ, hc, hp, hw⟩ := block med s M
  rw [hc, sum_mul_coe _ _ γ hγ, coe_sum]
  exact Finset.sum_congr rfl fun r _ => by rw [hp, ← EReal.coe_mul, hw]

/-- The block's weighted sum, rescaled. -/
theorem block_pool (M : ℝ) (e : κ → EReal) :
    (∑ r, Ideal.exp (masked med s r - top med s) * e r) * Ideal.exp (top med s - (M : EReal))
      = ∑ r, e r * (wt med s M r : EReal) := by
  obtain ⟨γ, p, hγ, hc, hp, hw⟩ := block med s M
  rw [hc, sum_mul_coe _ _ γ hγ]
  refine Finset.sum_congr rfl fun r _ => ?_
  rw [hp, mul_comm (p r : EReal), mul_assoc, ← EReal.coe_mul, hw]

omit [Fintype κ] in
/-- The weight of a row taking part is positive. -/
theorem wt_pos (M : ℝ) (r : κ) (h : med r) : 0 < wt med s M r := by
  unfold wt; rw [if_pos h]; exact Real.exp_pos _

/-- Some row taking part, the weights sum to a positive number. -/
theorem sum_wt_pos (M : ℝ) (h : ∃ r, med r) : 0 < ∑ r, wt med s M r := by
  obtain ⟨r, hr⟩ := h
  exact Finset.sum_pos' (fun r _ => wt_nonneg med s M r) ⟨r, Finset.mem_univ r, wt_pos med s M r hr⟩

/-- The softmax weights do not depend on the maximum they are taken against. -/
theorem softmax_shift (M : ℝ) (r : κ) : wt med s M r * (∑ r, wt med s M r)⁻¹ = wt med s 0 r * (∑ r, wt med s 0 r)⁻¹ := by
  have h : ∑ r, wt med s M r = (∑ r, wt med s 0 r) * Real.exp (-M) := by
    rw [Finset.sum_mul]; exact Finset.sum_congr rfl fun r _ => wt_shift med s M r
  rw [h, wt_shift med s M r, mul_inv, mul_mul_mul_comm, mul_inv_cancel₀ (Real.exp_pos _).ne', mul_one]

/-- In one go, every score moved by the bias `β`: a row's weight over the sum of weights. -/
theorem plain (β : ℝ) (h : ∃ r, med r) (r : κ) :
    Ideal.div (Ideal.exp (masked med (fun r => s r + β) r - max ⊥ (top med (fun r => s r + β))))
        (0 + ∑ r, Ideal.exp (masked med (fun r => s r + β) r - max ⊥ (top med (fun r => s r + β))))
      = ((wt med s 0 r * (∑ r, wt med s 0 r)⁻¹ : ℝ) : EReal) := by
  obtain ⟨μ, hμ⟩ := top_real med (fun r => s r + β) h
  have hw : ∀ r, wt med (fun r => s r + β) μ r = wt med s (μ - β) r := fun r => by
    unfold wt; split
    · congr 1; ring
    · rfl
  rw [hμ, max_eq_right bot_le, zero_add]
  simp only [exp_masked, hw]
  rw [← coe_sum, ← softmax_shift med s (μ - β) r]
  have hpos := sum_wt_pos med s (μ - β) h
  unfold Ideal.div
  rw [if_neg (by exact_mod_cast hpos.ne'), ← EReal.coe_inv, ← EReal.coe_mul]

/-- In four blocks, rescaled to the largest of their maxima and divided by the sum of weights at the end. -/
theorem blocked (md : Fin 4 → κ → Prop) [∀ b, DecidablePred (md b)] (sc : Fin 4 → κ → ℝ) (h : ∃ b r, md b r)
    (e : Fin 4 → κ → EReal) (mv zv pv : Fin 4 → EReal) (hmv : ∀ b, mv b = top (md b) (sc b))
    (hzv : ∀ b, zv b = ∑ r, Ideal.exp (masked (md b) (sc b) r - top (md b) (sc b)))
    (hpv : ∀ b, pv b = ∑ r, Ideal.exp (masked (md b) (sc b) r - top (md b) (sc b)) * e b r)
    (M Z : EReal) (hM : M = max (max (max (mv 0) (mv 1)) (mv 2)) (mv 3))
    (hZ : Z = zv 0 * Ideal.exp (mv 0 - M) + zv 1 * Ideal.exp (mv 1 - M) + zv 2 * Ideal.exp (mv 2 - M) + zv 3 * Ideal.exp (mv 3 - M)) :
    (pv 0 * Ideal.exp (mv 0 - M) + pv 1 * Ideal.exp (mv 1 - M) + pv 2 * Ideal.exp (mv 2 - M) + pv 3 * Ideal.exp (mv 3 - M))
        * (if 0 < Z then Ideal.div 1 Z else 0)
      = ∑ b, ∑ r, e b r * ((wt (md b) (sc b) 0 r * (∑ b, ∑ r, wt (md b) (sc b) 0 r)⁻¹ : ℝ) : EReal) := by
  obtain ⟨b₀, hb₀⟩ := h
  obtain ⟨μ, hμ⟩ := top_real (md b₀) (sc b₀) hb₀
  have hlt : ∀ b, mv b < ⊤ := fun b => by rw [hmv]; exact top_lt _ _
  have hle : mv b₀ ≤ M := by
    rw [hM]
    fin_cases b₀ <;> simp
  have hMt : M ≠ ⊤ := by
    rw [hM]
    exact (max_lt (max_lt (max_lt (hlt 0) (hlt 1)) (hlt 2)) (hlt 3)).ne
  have hMb : M ≠ ⊥ := fun hb => by
    rw [hb, hmv, hμ] at hle
    exact absurd (le_bot_iff.mp hle) (EReal.coe_ne_bot _)
  obtain ⟨N, hN⟩ : ∃ N : ℝ, M = N := ⟨M.toReal, (EReal.coe_toReal hMt hMb).symm⟩
  clear hM
  subst hN
  have hz : ∀ b, zv b * Ideal.exp (mv b - (N : EReal)) = ((∑ r, wt (md b) (sc b) N r : ℝ) : EReal) := fun b => by
    rw [hzv, hmv, block_sum]
  have hp : ∀ b, pv b * Ideal.exp (mv b - (N : EReal)) = ∑ r, e b r * (wt (md b) (sc b) N r : EReal) := fun b => by
    rw [hpv, hmv, block_pool]
  have hZ' : Z = ((∑ b, ∑ r, wt (md b) (sc b) N r : ℝ) : EReal) := by
    rw [hZ, hz, hz, hz, hz, Fin.sum_univ_four, EReal.coe_add, EReal.coe_add, EReal.coe_add]
  have hpos : 0 < ∑ b, ∑ r, wt (md b) (sc b) N r :=
    Finset.sum_pos' (fun b _ => Finset.sum_nonneg fun r _ => wt_nonneg _ _ _ _) ⟨b₀, Finset.mem_univ _, sum_wt_pos _ _ N hb₀⟩
  have hshift : ∀ b r, wt (md b) (sc b) N r * (∑ b, ∑ r, wt (md b) (sc b) N r)⁻¹
      = wt (md b) (sc b) 0 r * (∑ b, ∑ r, wt (md b) (sc b) 0 r)⁻¹ := fun b r => by
    have := softmax_shift (fun x : Fin 4 × κ => md x.1 x.2) (fun x => sc x.1 x.2) N (b, r)
    rw [Fintype.sum_prod_type, Fintype.sum_prod_type] at this
    exact this
  have hdiv : (if 0 < Z then Ideal.div 1 Z else 0) = (((∑ b, ∑ r, wt (md b) (sc b) N r)⁻¹ : ℝ) : EReal) := by
    rw [hZ', if_pos (by exact_mod_cast hpos)]
    unfold Ideal.div
    rw [if_neg (by exact_mod_cast hpos.ne'), one_mul, EReal.coe_inv]
  have hinv : 0 ≤ (∑ b, ∑ r, wt (md b) (sc b) N r)⁻¹ := inv_nonneg.mpr hpos.le
  rw [hp, hp, hp, hp, hdiv, ← Fin.sum_univ_four (fun b => ∑ r, e b r * (wt (md b) (sc b) N r : EReal)), sum_mul_coe _ _ _ hinv]
  refine Finset.sum_congr rfl fun b _ => ?_
  rw [sum_mul_coe _ _ _ hinv]
  refine Finset.sum_congr rfl fun r _ => ?_
  rw [mul_assoc, ← EReal.coe_mul, hshift]

/-- A sum over `N` numbers, taken block by block. -/
theorem sum_blocks {A B N : ℕ} {G : Type} [AddCommMonoid G] (hN : N = A * B) (f : ℕ → G) :
    ∑ n : Fin N, f n.val = ∑ a : Fin A, ∑ b : Fin B, f (B * a.val + b.val) := by
  subst hN
  rw [← Fintype.sum_prod_type']
  refine (Fintype.sum_equiv finProdFinEquiv _ _ fun x => ?_).symm
  show f (B * x.1.val + x.2.val) = f (x.2.val + B * x.1.val)
  rw [add_comm]

/-- The hyperbolic tangent is real at every extended real. -/
theorem tanh_real (x : EReal) : ∃ t : ℝ, Ideal.tanh x = (t : EReal) := by
  induction x using EReal.rec with
  | bot => exact ⟨-1, by rw [Ideal.tanh_bot]; rfl⟩
  | top => exact ⟨1, by rw [Ideal.tanh_top]; rfl⟩
  | coe r => exact ⟨Real.tanh r, rfl⟩

/-- Tangents against real weights sum to a real. -/
theorem score_real {n : ℕ} (x w : Fin n → EReal) (hw : ∀ k, w k ≠ ⊤ ∧ w k ≠ ⊥) :
    ∃ t : ℝ, ∑ k, Ideal.tanh (x k) * w k = (t : EReal) := by
  choose t ht using fun k => tanh_real (x k)
  refine ⟨∑ k, t k * (w k).toReal, ?_⟩
  rw [coe_sum]
  exact Finset.sum_congr rfl fun k _ => by rw [ht, EReal.coe_mul, EReal.coe_toReal (hw k).1 (hw k).2]

end Cert.Pool

end
-- ==== Proof.Spec.lean ====
/-
  The rows, scores and pooled weights both programs are read against.
-/
module

public import proofs.«01_k».proof.Proof.Pool
public import Idealize.ShloMosaic.Lib.Pointwise

@[expose] public section

noncomputable section

namespace Cert.Spec

open Idealize.ShloMosaic Cert.Pool

/-- The first coordinate of row `n` among the 16 by 2048 rows. -/
def ra (n : ℕ) : Fin 16 := ⟨n / 2048 % 16, Nat.mod_lt _ (by decide)⟩

/-- The second coordinate of row `n` among the 16 by 2048 rows. -/
def rb (n : ℕ) : Fin 2048 := ⟨n % 2048, Nat.mod_lt _ (by decide)⟩

/-- A row's coordinates from its number. -/
theorem ra_row (a : Fin 16) (b : Fin 2048) : ra (2048 * a.val + b.val) = a := by
  apply Fin.ext; show (2048 * a.val + b.val) / 2048 % 16 = a.val
  have := a.isLt; have := b.isLt; omega

/-- A row's coordinates from its number. -/
theorem rb_row (a : Fin 16) (b : Fin 2048) : rb (2048 * a.val + b.val) = b := by
  apply Fin.ext; show (2048 * a.val + b.val) % 2048 = b.val
  have := a.isLt; have := b.isLt; omega

/-- Priority `p` is below three. -/
def bitS (p : BitVec 32) : BitVec 1 := IntOp.cmpi .slt p 3#32

/-- Priority `p` is three or four. -/
def bitM (p : BitVec 32) : BitVec 1 := IntOp.andi (IntOp.cmpi .sge p 3#32) (IntOp.cmpi .slt p 5#32)

variable (x0 : (⟨3, ![16, 2048, 256]⟩ : Shape).Idx → EReal) (x1 : (⟨2, ![16, 2048]⟩ : Shape).Idx → BitVec 32)
  (x2 : (⟨2, ![128, 256]⟩ : Shape).Idx → EReal) (x3 : (⟨1, ![128]⟩ : Shape).Idx → EReal) (x4 : (⟨2, ![1, 128]⟩ : Shape).Idx → EReal)

/-- Row `n` takes part in the pooling. -/
def med (n : ℕ) : Prop := bitM (x1 (ix2 (ra n) (rb n))) = 1#1

instance : DecidablePred (med x1) := fun n => inferInstanceAs (Decidable (bitM (x1 (ix2 (ra n) (rb n))) = 1#1))

/-- Row `n`'s score before the last bias. -/
def raw (n : ℕ) : EReal :=
  ∑ k : Fin 128, Ideal.tanh (∑ l : Fin 256, x0 (ix3 (ra n) (rb n) l) * x2 (ix2 k l) + x3 (ix1 k)) * x4 (ix2 0 k)

/-- Row `n`'s weight in the pooling, a real number. -/
def weight (s : ℕ → ℝ) (n : ℕ) : ℝ := wt (med x1) s 0 n * (∑ k : Fin 32768, wt (med x1) s 0 k.val)⁻¹

/-- The pooled row. -/
def pooled (s : ℕ → ℝ) (j : Fin 256) : EReal :=
  ∑ n : Fin 32768, x0 (ix3 (ra n.val) (rb n.val) j) * ((weight x1 s n.val : ℝ) : EReal)

/-- A bit widened to a float multiplies as the selection of the bit. -/
theorem mul_bit (x : EReal) (c : BitVec 1) :
    x * (FloatOps.sitofp (F := Ideal) .f32 (BitVec.setWidth 32 c) : EReal) = Scalar.select c x 0 := by
  have h : c = 0#1 ∨ c = 1#1 := by revert c; decide
  rcases h with rfl | rfl
  · show x * (((BitVec.setWidth 32 0#1).toInt : ℝ) : EReal) = 0
    simp
  · show x * (((BitVec.setWidth 32 1#1).toInt : ℝ) : EReal) = x
    have : (BitVec.setWidth 32 1#1).toInt = 1 := by decide
    rw [this]; simp

end Cert.Spec

end
-- ==== Proof.InputIdeal.lean ====
/-
  The idealised kernel's staged blocks, read at an index of the argument arrays.
-/
module

public import proofs.«01_k».proof.Proof.RunIdeal
public import proofs.«01_k».proof.Proof.Spec
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Spec
open Idealize.ShloMosaic Idealize.ShloMosaic.TcCoe
open Idealize.ShloMosaic.Pipeline (Dat Cfg Window)

variable (m : (ℓ : Loc nD τ sig) → Buf (Elt Ideal) ℓ)

/-- The arguments' arrays. -/
def A0 (c : Dev nD) : FVec Ideal S16x2048x256 .f32 := m ((c.tc : Thread nD τ).loc main_arg0)
def A1 (c : Dev nD) : IVec S16x2048 32 := m ((c.tc : Thread nD τ).loc main_arg1)
def A2 (c : Dev nD) : FVec Ideal S128x256 .f32 := m ((c.tc : Thread nD τ).loc main_arg2)
def A3 (c : Dev nD) : FVec Ideal S128 .f32 := m ((c.tc : Thread nD τ).loc main_arg3)
def A4 (c : Dev nD) : FVec Ideal S1x128 .f32 := m ((c.tc : Thread nD τ).loc main_arg4)
def A5 (c : Dev nD) : FVec Ideal S1 .f32 := m ((c.tc : Thread nD τ).loc main_arg5)

/-- The staged rows are the first argument, flattened. -/
theorem v0_eq (c : Dev nD) : V m c main_v0 = shapeCast S32768x256 (A0 m c) shapeCasts_S16x2048x256_S32768x256 := by
  entry_read
  rfl
/-- The staged priorities are the second argument in a column. -/
theorem v1_eq (c : Dev nD) : V m c main_v1 = shapeCast S32768x1 (A1 m c) shapeCasts_S16x2048_S32768x1 := by
  entry_read
  rfl
/-- The staged first layer is the third argument, transposed. -/
theorem v3_eq (c : Dev nD) : V m c main_v3 = transpose S256x128 [1, 0] (A2 m c) transposes_S128x256_S256x128_1_0 := by
  entry_read
  rfl
/-- The staged bias is the fourth argument in a row. -/
theorem v4_eq (c : Dev nD) : V m c main_v4 = shapeCast S1x128 (A3 m c) shapeCasts_S128_S1x128 := by
  entry_read
  rfl
/-- The staged last layer is the fifth argument in a column. -/
theorem v5_eq (c : Dev nD) : V m c main_v5 = shapeCast S128x1 (A4 m c) shapeCasts_S1x128_S128x1 := by
  entry_read
  rfl

/-- A staged row at an index. -/
theorem v0_apply (c : Dev nD) (n : Fin 32768) (l : Fin 256) :
    V m c main_v0 (ix2 n l) = A0 m c (ix3 (ra n.val) (rb n.val) l) := by
  rw [v0_eq]
  generalize A0 m c = X
  pointwise
  refine congrArg X ?_
  have h : n.val / 2048 % 16 = n.val / 2048 := by have := n.isLt; omega
  exact congrArg₂ (fun a b => ix3 a b l) (Fin.ext h.symm) (Fin.ext rfl)

/-- A staged priority at an index. -/
theorem v1_apply (c : Dev nD) (n : Fin 32768) :
    V m c main_v1 (ix2 n 0) = A1 m c (ix2 (ra n.val) (rb n.val)) := by
  rw [v1_eq]
  generalize A1 m c = X
  pointwise
  refine congrArg X ?_
  have h : n.val / 2048 % 16 = n.val / 2048 := by have := n.isLt; omega
  exact congrArg₂ (fun a b => ix2 a b) (Fin.ext h.symm) (Fin.ext rfl)

/-- Operand 1's window is the whole array at every point. -/
theorem index1 : ∀ t : Fin cfg0.N, win0_1.index t 0 = 0 ∧ win0_1.index t 1 = 0 := by decide +kernel

/-- Operand 2's window is the whole array at every point. -/
theorem index2 : ∀ t : Fin cfg0.N, win0_2.index t 0 = 0 ∧ win0_2.index t 1 = 0 := by decide +kernel

/-- Operand 3's window is the whole array at every point. -/
theorem index3 : ∀ t : Fin cfg0.N, win0_3.index t 0 = 0 ∧ win0_3.index t 1 = 0 := by decide +kernel

/-- The first layer a step reads. -/
theorem inW1_apply (c : Dev nD) (t : Fin cfg0.N) (l : Fin 256) (k : Fin 128) : inW1 m c t (ix2 l k) = A2 m c (ix2 k l) := by
  have e : inW1 m c t (ix2 l k) = V m c main_v3 (ix2 l k) := by
    unfold inW1
    blk_ext [iblk, (index1 t).1, (index1 t).2]
  rw [e, v3_eq]
  generalize A2 m c = X
  pointwise

/-- The bias a step reads. -/
theorem inB1_apply (c : Dev nD) (t : Fin cfg0.N) (k : Fin 128) : inB1 m c t (ix2 0 k) = A3 m c (ix1 k) := by
  have e : inB1 m c t (ix2 0 k) = V m c main_v4 (ix2 0 k) := by
    unfold inB1
    blk_ext [iblk, (index2 t).1, (index2 t).2]
  rw [e, v4_eq]
  generalize A3 m c = X
  pointwise

/-- The last layer a step reads. -/
theorem inW2_apply (c : Dev nD) (t : Fin cfg0.N) (k : Fin 128) : inW2 m c t (ix2 k 0) = A4 m c (ix2 0 k) := by
  have e : inW2 m c t (ix2 k 0) = V m c main_v5 (ix2 k 0) := by
    unfold inW2
    blk_ext [iblk, (index3 t).1, (index3 t).2]
  rw [e, v5_eq]
  generalize A4 m c = X
  pointwise

/-- A row of a block is one of the rows. -/
theorem row_lt (b : Fin 4) (r : Fin 8192) : 8192 * b.val + r.val < 32768 := by
  have := b.isLt; have := r.isLt; omega

/-- A block's row at an index. -/
theorem blkRead_emb_apply (c : Dev nD) (b : Fin 4) (r : Fin 8192) (l : Fin 256) :
    blkRead (emb m c) b (ix2 r l) = A0 m c (ix3 (ra (8192 * b.val + r.val)) (rb (8192 * b.val + r.val)) l) := by
  rw [← v0_apply m c ⟨8192 * b.val + r.val, row_lt b r⟩ l]
  have e : blkRead (emb m c) b (ix2 r l) = V m c main_v0 ((blkR b).idx (ix2 r l)) := rfl
  rw [e]
  refine congrArg (V m c main_v0) (Shape.idx_ext₂ ?_ ?_)
  · show 8192 * b.val + 1 * r.val = 8192 * b.val + r.val
    omega
  · show 0 + 1 * l.val = l.val
    omega

/-- The priorities a step reads. -/
theorem inP_apply (c : Dev nD) (t : Fin cfg0.N) (b : Fin 4) (hb : win0_0.index t 0 = b.val) (r : Fin 8192) :
    inP m c t (ix2 r 0) = A1 m c (ix2 (ra (8192 * b.val + r.val)) (rb (8192 * b.val + r.val))) := by
  rw [← v1_apply m c ⟨8192 * b.val + r.val, row_lt b r⟩]
  unfold inP
  have h1 : win0_0.index t 1 = 0 := by clear hb; revert t; decide +kernel
  blk_ext [iblk, hb, h1]

/-- The priorities the first pass reads. -/
theorem inPA_apply (c : Dev nD) (b : Fin 4) (r : Fin 8192) :
    inP m c (tA b) (ix2 r 0) = A1 m c (ix2 (ra (8192 * b.val + r.val)) (rb (8192 * b.val + r.val))) :=
  inP_apply m c (tA b) b (by revert b; decide +kernel) r

/-- The priorities the second pass reads. -/
theorem inPB_apply (c : Dev nD) (b : Fin 4) (r : Fin 8192) :
    inP m c (tB b) (ix2 r 0) = A1 m c (ix2 (ra (8192 * b.val + r.val)) (rb (8192 * b.val + r.val))) :=
  inP_apply m c (tB b) b (by revert b; decide +kernel) r

end Cert.KernelIdeal.Hand

end
-- ==== Proof.PayIdeal.lean ====
/-
  The idealised kernel's pure values at the extended reals, read at an index.
-/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen
open Idealize.ShloMosaic

/-- A row's score: the hidden layer's `tanh` against the second layer's weights. -/
theorem pay14_apply (X : FVec Ideal S8192x256 .f32) (W1 : FVec Ideal S256x128 .bf16) (B1 : FVec Ideal S1x128 .f32)
    (W2 : FVec Ideal S128x1 .f32) (r : Fin 8192) :
    k0_pay14 (F := Ideal) X W1 B1 W2 (ix2 r 0)
      = ∑ k : Fin 128, Ideal.tanh (∑ l : Fin 256, X (ix2 r l) * W1 (ix2 l k) + B1 (ix2 0 k)) * W2 (ix2 k 0) := by
  pointwise [k0_pay14, k0_pay13]

/-- A block's maximum. -/
theorem pay2_apply (s : FVec Ideal S8192x1 .f32) (v : IVec S8192x1 1) (n : FVec Ideal S8192x1 .f32) :
    k0_pay2 s v n = Finset.fold max (Ideal.ofBits .f32 0xFF800000#32)
      (fun x : Fin 8192 × Fin 1 => Scalar.select (v (ix2 x.1 0)) (s (ix2 x.1 0)) (n (ix2 x.1 0))) Finset.univ := by
  pointwise [k0_pay2, k0_pay1]

/-- A row's weight within its block. -/
theorem pay3_apply (s : FVec Ideal S8192x1 .f32) (v : IVec S8192x1 1) (n : FVec Ideal S8192x1 .f32) (r : Fin 8192) :
    k0_pay3 s v n (ix2 r 0) = Ideal.exp (Scalar.select (v (ix2 r 0)) (s (ix2 r 0)) (n (ix2 r 0)) - k0_pay2 s v n) := by
  unfold k0_pay3
  generalize k0_pay2 s v n = y
  pointwise [k0_pay1]

/-- A block's sum of weights. -/
theorem pay4_apply (s : FVec Ideal S8192x1 .f32) (v : IVec S8192x1 1) (n : FVec Ideal S8192x1 .f32) :
    k0_pay4 s v n = ∑ r : Fin 8192, k0_pay3 s v n (ix2 r 0) := by
  unfold k0_pay4
  generalize k0_pay3 s v n = y
  pointwise
  exact Finset.sum_congr rfl fun r _ => Fintype.sum_unique _

/-- A block's weighted sum of rows. -/
theorem pay5_apply (X : FVec Ideal S8192x256 .f32) (s : FVec Ideal S8192x1 .f32) (v : IVec S8192x1 1)
    (n : FVec Ideal S8192x1 .f32) (j : Fin 256) :
    k0_pay5 (k0_pay13 X) s v n (ix2 0 j) = ∑ r : Fin 8192, k0_pay3 s v n (ix2 r 0) * X (ix2 r j) := by
  unfold k0_pay5
  generalize k0_pay3 s v n = y
  pointwise [k0_pay13]

/-- Whether a row's path length lies in the pooled range. -/
theorem pay15_apply (p : IVec S8192x1 32) (r : Fin 8192) :
    k0_pay15 (F := Ideal) p (ix2 r 0)
      = IntOp.andi (IntOp.cmpi .sge (p (ix2 r 0)) 3#32) (IntOp.cmpi .slt (p (ix2 r 0)) 5#32) := by
  pointwise [k0_pay15]

/-- The masked score is minus infinity. -/
theorem pay16_apply (r : Fin 8192) : k0_pay16 (F := Ideal) (ix2 r 0) = (⊥ : EReal) := by
  pointwise [k0_pay16]
  exact IdealRules.named_const.ideal_named_scalar _ _ _ _ rfl

/-- What the second pass writes. -/
theorem pay17_apply (X : FVec Ideal S8192x256 .f32) (p : IVec S8192x1 32) (w : FVec Ideal S1x256 .f32) (r : Fin 8192) (j : Fin 256) :
    k0_pay17 (F := Ideal) X p w (ix2 r j)
      = X (ix2 r j) * FloatOps.sitofp .f32 (BitVec.setWidth 32 (IntOp.cmpi .slt (p (ix2 r 0)) 3#32))
        + FloatOps.sitofp .f32 (BitVec.setWidth 32 (IntOp.andi (IntOp.cmpi .sge (p (ix2 r 0)) 3#32) (IntOp.cmpi .slt (p (ix2 r 0)) 5#32)))
          * w (ix2 0 j) := by
  pointwise [k0_pay17]

/-- The pooled row, from the four blocks' maxima, sums and weighted sums. -/
theorem pay6_apply (mv zv : Fin 4 → EReal) (pv : Fin 4 → FVec Ideal S1x256 .f32) (j : Fin 256) :
    k0_pay6 (F := Ideal) (k0_pay7 (F := Ideal) (mv 0) (mv 1) (mv 2) (mv 3)) (k0_pay10 (F := Ideal) (mv 0) (mv 1) (mv 2) (mv 3) (mv 0) (pv 0) (mv 1) (pv 1))
      (k0_pay11 (F := Ideal) (mv 0) (mv 1) (mv 2) (mv 3) (mv 2)) (k0_pay12 (F := Ideal) (mv 0) (mv 1) (mv 2) (mv 3) (mv 0) (zv 0) (mv 1) (zv 1) (mv 2) (zv 2))
      (pv 2) (mv 3) (zv 3) (pv 3) (ix2 0 j)
    = ((pv 0 (ix2 0 j) * Ideal.exp (mv 0 - max (max (max (mv 0) (mv 1)) (mv 2)) (mv 3))
          + pv 1 (ix2 0 j) * Ideal.exp (mv 1 - max (max (max (mv 0) (mv 1)) (mv 2)) (mv 3))
          + pv 2 (ix2 0 j) * Ideal.exp (mv 2 - max (max (max (mv 0) (mv 1)) (mv 2)) (mv 3))
          + pv 3 (ix2 0 j) * Ideal.exp (mv 3 - max (max (max (mv 0) (mv 1)) (mv 2)) (mv 3)))
        * if 0 < zv 0 * Ideal.exp (mv 0 - max (max (max (mv 0) (mv 1)) (mv 2)) (mv 3))
              + zv 1 * Ideal.exp (mv 1 - max (max (max (mv 0) (mv 1)) (mv 2)) (mv 3))
              + zv 2 * Ideal.exp (mv 2 - max (max (max (mv 0) (mv 1)) (mv 2)) (mv 3))
              + zv 3 * Ideal.exp (mv 3 - max (max (max (mv 0) (mv 1)) (mv 2)) (mv 3))
          then Ideal.div 1 (zv 0 * Ideal.exp (mv 0 - max (max (max (mv 0) (mv 1)) (mv 2)) (mv 3))
              + zv 1 * Ideal.exp (mv 1 - max (max (max (mv 0) (mv 1)) (mv 2)) (mv 3))
              + zv 2 * Ideal.exp (mv 2 - max (max (max (mv 0) (mv 1)) (mv 2)) (mv 3))
              + zv 3 * Ideal.exp (mv 3 - max (max (max (mv 0) (mv 1)) (mv 2)) (mv 3)))
          else 0) := by
  pointwise [k0_pay6, k0_pay7, k0_pay8, k0_pay9, k0_pay10, k0_pay11, k0_pay12]
  rfl

end Cert.KernelIdeal.Hand

end
-- ==== Proof.RefIdeal.lean ====
/-
  The reference's result at the extended reals, read at an index.
-/
module

public import proofs.«01_k».proof.Proof.Gen.ReferenceIdeal.Read
public import proofs.«01_k».proof.Proof.Spec

@[expose] public section

set_option maxRecDepth 16384

noncomputable section

namespace Cert.ReferenceIdeal.Hand

open Cert.ReferenceIdeal Cert.ReferenceIdeal.Gen Cert.ReferenceIdeal.Read
open Idealize.ShloMosaic Cert.Spec Cert.Pool

/-- The most negative float pattern is the bottom of the extended reals. -/
theorem ofBits_neg_inf : Ideal.ofBits .f32 0xFF800000#32 = ⊥ := by simp [Ideal.ofBits, Ideal.ieee]

/-- Summing the first two of three axes. -/
theorem sum_axes01 {n0 n1 n2 : ℕ} (h : (⟨3, ![n0, n1, n2]⟩ : Shape).ReducesTo [0, 1] ⟨1, ![n2]⟩)
    (v : (⟨3, ![n0, n1, n2]⟩ : Shape).Idx → EReal) (j : Fin n2) :
    Ideal.hostReduceAdd h v 0 (ix1 j) = ∑ a : Fin n0, ∑ b : Fin n1, v (ix3 a b j) := by
  show 0 + ∑ i ∈ Finset.univ.filter (fun i => h.drop i = ix1 j), v i = _
  have key : ∀ i : (⟨3, ![n0, n1, n2]⟩ : Shape).Idx, h.drop i = ix1 j ↔ i 2 = j := fun i =>
    ⟨fun e => Fin.ext (congrArg Fin.val (congrFun e 0)), fun e => by
      funext a; apply Fin.ext
      match a with
      | ⟨0, _⟩ => exact congrArg Fin.val e⟩
  rw [zero_add, Finset.sum_filter, sum_idx3]
  refine Finset.sum_congr rfl fun a _ => Finset.sum_congr rfl fun b _ => ?_
  have e : ∀ c : Fin n2, (if h.drop (ix3 a b c) = ix1 j then v (ix3 a b c) else 0) = if c = j then v (ix3 a b c) else 0 :=
    fun c => if_congr (key (ix3 a b c)) rfl rfl
  rw [Finset.sum_congr rfl fun c _ => e c]
  exact (Finset.sum_ite_eq' Finset.univ j fun c => v (ix3 a b c)).trans (if_pos (Finset.mem_univ _))

variable (x0 : FVec Ideal S16x2048x256 .f32) (x1 : IVec S16x2048 32) (x2 : FVec Ideal S128x256 .f32)
  (x3 : FVec Ideal S128 .f32) (x4 : FVec Ideal S1x128 .f32) (x5 : FVec Ideal S1 .f32)

/-- The masked score of a row. -/
theorem v19_apply (a : Fin 16) (b : Fin 2048) :
    val_main_v19 (F := Ideal) x0 x1 x2 x3 x4 x5 (ix3 a b 0)
      = Scalar.select (bitM (x1 (ix2 a b)))
          (∑ k : Fin 128, Ideal.tanh (∑ l : Fin 256, x0 (ix3 a b l) * x2 (ix2 k l) + x3 (ix1 k)) * x4 (ix2 0 k) + x5 (ix1 0)) ⊥ := by
  pointwise [val_main_v19, val_main_v18, val_main_v6, val_main_v3, val_main_v5, val_main_v17, val_main_v16, val_main_v15,
    val_main_v14, val_main_v13, val_main_v12, val_main_v11, val_main_v10, val_main_v9, val_main_call1_v1, val_main_call1_v0,
    val_main_cst_2, val_main_v2, val_main_c_0, val_main_v4, val_main_c_1]
  rw [← ofBits_neg_inf]
  rfl

/-- The masked scores in one column. -/
theorem v20_apply (n : Fin 32768) :
    val_main_v20 (F := Ideal) x0 x1 x2 x3 x4 x5 (ix1 n)
      = Scalar.select (bitM (x1 (ix2 (ra n.val) (rb n.val)))) (raw x0 x2 x3 x4 n.val + x5 (ix1 0)) ⊥ := by
  refine Eq.trans ?_ (v19_apply x0 x1 x2 x3 x4 x5 (ra n.val) (rb n.val))
  unfold val_main_v20
  generalize val_main_v19 (F := Ideal) x0 x1 x2 x3 x4 x5 = y
  pointwise
  refine congrArg y ?_
  have h : n.val / 2048 % 16 = n.val / 2048 := by have := n.isLt; omega
  exact congrArg₂ (fun a b => ix3 a b 0) (Fin.ext h.symm) (Fin.ext rfl)

/-- The largest masked score. -/
theorem v21_apply (i : S_.Idx) : val_main_v21 (F := Ideal) x0 x1 x2 x3 x4 x5 i
    = Finset.univ.fold max ⊥ (fun n : Fin 32768 => val_main_v20 (F := Ideal) x0 x1 x2 x3 x4 x5 (ix1 n)) := by
  unfold val_main_v21
  generalize val_main_v20 (F := Ideal) x0 x1 x2 x3 x4 x5 = y
  pointwise [val_main_cst_3]
  rw [ofBits_neg_inf]

/-- A row's weight. -/
theorem v30_apply (n : Fin 32768) : val_main_v30 (F := Ideal) x0 x1 x2 x3 x4 x5 (ix1 n)
    = Ideal.div (Ideal.exp (val_main_v20 (F := Ideal) x0 x1 x2 x3 x4 x5 (ix1 n) - max ⊥ (val_main_v21 (F := Ideal) x0 x1 x2 x3 x4 x5 ix0)))
        (0 + ∑ k : Fin 32768, Ideal.exp (val_main_v20 (F := Ideal) x0 x1 x2 x3 x4 x5 (ix1 k) - max ⊥ (val_main_v21 (F := Ideal) x0 x1 x2 x3 x4 x5 ix0))) := by
  unfold val_main_v30 val_main_v29 val_main_v28 val_main_v27 val_main_v26 val_main_v25 val_main_v24 val_main_v23 val_main_v22
  generalize val_main_v21 (F := Ideal) x0 x1 x2 x3 x4 x5 = z
  generalize val_main_v20 (F := Ideal) x0 x1 x2 x3 x4 x5 = y
  pointwise [val_main_cst_5, val_main_cst_4]
  rw [ofBits_neg_inf]

/-- The pooled row as a sum over the rows. -/
theorem v34_apply (j : Fin 256) : val_main_v34 (F := Ideal) x0 x1 x2 x3 x4 x5 (ix1 j)
    = ∑ a : Fin 16, ∑ b : Fin 2048, x0 (ix3 a b j)
        * val_main_v30 (F := Ideal) x0 x1 x2 x3 x4 x5 (ix1 ⟨2048 * a.val + b.val, by have := a.isLt; have := b.isLt; omega⟩) := by
  unfold val_main_v34 val_main_v33 val_main_v32 val_main_v31
  generalize val_main_v30 (F := Ideal) x0 x1 x2 x3 x4 x5 = y
  pointwise [val_main_cst_6]
  rw [sum_axes01]
  refine Finset.sum_congr rfl fun a _ => Finset.sum_congr rfl fun b _ => ?_
  pointwise
  have e : a.val * 2048 + b.val = 2048 * a.val + b.val := by omega
  simp only [e]

/-- The pooled row when some row takes part and the scores are real. -/
theorem pool_eq (s : ℕ → ℝ) (β : ℝ) (hs : ∀ n, raw x0 x2 x3 x4 n = (s n : EReal)) (hβ : x5 (ix1 0) = (β : EReal))
    (h : ∃ n : Fin 32768, med x1 n.val) (j : Fin 256) :
    val_main_v34 (F := Ideal) x0 x1 x2 x3 x4 x5 (ix1 j) = pooled x0 x1 s j := by
  have h20 : ∀ n : Fin 32768, val_main_v20 (F := Ideal) x0 x1 x2 x3 x4 x5 (ix1 n)
      = masked (fun n : Fin 32768 => med x1 n.val) (fun n => s n.val + β) n := fun n => by
    rw [v20_apply, hs, hβ, ← EReal.coe_add]
    rfl
  have h30 : ∀ n : Fin 32768, val_main_v30 (F := Ideal) x0 x1 x2 x3 x4 x5 (ix1 n) = ((weight x1 s n.val : ℝ) : EReal) := fun n => by
    rw [v30_apply, v21_apply]
    simp only [h20]
    exact plain (fun n : Fin 32768 => med x1 n.val) (fun n => s n.val) β h n
  rw [v34_apply]
  simp only [h30]
  refine Eq.trans ?_ (sum_blocks (A := 16) (B := 2048) (N := 32768) rfl
    (fun n => x0 (ix3 (ra n) (rb n) j) * ((weight x1 s n : ℝ) : EReal))).symm
  refine Finset.sum_congr rfl fun a _ => Finset.sum_congr rfl fun b _ => ?_
  rw [ra_row, rb_row]

/-- The emitted rows. -/
theorem v37_apply (a : Fin 16) (b : Fin 2048) (j : Fin 256) :
    val_main_v37 (F := Ideal) x0 x1 x2 x3 x4 x5 (ix3 a b j)
      = Scalar.select (bitS (x1 (ix2 a b))) (x0 (ix3 a b j)) 0
        + Scalar.select (bitM (x1 (ix2 a b))) (val_main_v34 (F := Ideal) x0 x1 x2 x3 x4 x5 (ix1 j)) 0 := by
  unfold val_main_v37 val_main_v36 val_main_call2_v2
  generalize val_main_v34 (F := Ideal) x0 x1 x2 x3 x4 x5 = z
  pointwise [val_main_v8, val_main_call0_v1, val_main_v7, val_main_v1, val_main_v0, val_main_c, val_main_call0_v2, val_main_call0_v0, val_main_cst,
    val_main_call2_v1, val_main_v35, val_main_call2_v3, val_main_call2_v0, val_main_cst_7, val_main_v6, val_main_v3, val_main_v5, val_main_v2, val_main_c_0, val_main_v4, val_main_c_1]
  have h0 : (id (constant (F := Ideal) S_ .f32 0#32) ix0 : EReal) = 0 := Ideal.ofBits_zero_f32
  rw [h0]
  rfl

end Cert.ReferenceIdeal.Hand

end
-- ==== Proof.Value.lean ====
/-
  The idealised kernel and the reference leave the same array.
-/
module

public import proofs.«01_k».proof.Proof.InputIdeal
public import proofs.«01_k».proof.Proof.PayIdeal
public import proofs.«01_k».proof.Proof.RefIdeal

@[expose] public section

set_option maxRecDepth 16384

noncomputable section

namespace Cert.KernelIdeal.Hand

open Cert.KernelIdeal Cert.KernelIdeal.Gen Cert.Spec Cert.Pool
open Idealize.ShloMosaic Idealize.ShloMosaic.TcCoe

variable (m : (ℓ : Loc nD τ sig) → Buf (Elt Ideal) ℓ) (c : Dev nD)

/-- A fold over pairs whose second member is unique. -/
theorem fold_unique {ι : Type} [Fintype ι] (f : ι → EReal) :
    Finset.fold max ⊥ (fun x : ι × Fin 1 => f x.1) Finset.univ = Finset.fold max ⊥ f Finset.univ := by
  have e : (Finset.univ : Finset (ι × Fin 1)) = (Finset.univ : Finset ι).map (Equiv.prodUnique ι (Fin 1)).symm.toEmbedding := by
    ext x; simp
  rw [e, Finset.fold_map]
  rfl

/-- A block's scores. -/
theorem scoresAt_apply (b : Fin 4) (r : Fin 8192) :
    scoresAt m c b (ix2 r 0) = raw (A0 m c) (A2 m c) (A3 m c) (A4 m c) (8192 * b.val + r.val) := by
  unfold scoresAt scores raw
  rw [pay14_apply]
  simp only [blkRead_emb_apply, inW1_apply, inB1_apply, inW2_apply]

variable (s : ℕ → ℝ) (hs : ∀ n, raw (A0 m c) (A2 m c) (A3 m c) (A4 m c) n = (s n : EReal))

/-- A block's rows that take part. -/
abbrev md (b : Fin 4) (r : Fin 8192) : Prop := med (A1 m c) (8192 * b.val + r.val)

/-- A block's real scores. -/
abbrev sc (b : Fin 4) (r : Fin 8192) : ℝ := s (8192 * b.val + r.val)

include hs

/-- A block's masked scores. -/
theorem masked_apply (b : Fin 4) (r : Fin 8192) :
    Scalar.select (k0_pay15 (F := Ideal) (inP m c (tA b)) (ix2 r 0)) (scoresAt m c b (ix2 r 0)) (k0_pay16 (F := Ideal) (ix2 r 0))
      = masked (md m c b) (sc s b) r := by
  rw [pay15_apply, pay16_apply, inPA_apply, scoresAt_apply, hs]
  rfl

/-- A block's largest masked score. -/
theorem mvOf_eq (b : Fin 4) : mvOf m c b = top (md m c b) (sc s b) := by
  unfold mvOf
  rw [pay2_apply, Cert.ReferenceIdeal.Hand.ofBits_neg_inf]
  simp only [masked_apply m c s hs]
  exact fold_unique (masked (md m c b) (sc s b))

/-- A row's exponential against its block's largest masked score. -/
theorem expOf_eq (b : Fin 4) (r : Fin 8192) :
    k0_pay3 (F := Ideal) (scoresAt m c b) (k0_pay15 (F := Ideal) (inP m c (tA b))) (k0_pay16 (F := Ideal)) (ix2 r 0)
      = Ideal.exp (masked (md m c b) (sc s b) r - top (md m c b) (sc s b)) := by
  have e := mvOf_eq m c s hs b
  unfold mvOf at e
  rw [pay3_apply, masked_apply m c s hs, e]

/-- A block's sum of exponentials. -/
theorem zvOf_eq (b : Fin 4) : zvOf m c b = ∑ r, Ideal.exp (masked (md m c b) (sc s b) r - top (md m c b) (sc s b)) := by
  unfold zvOf
  rw [pay4_apply]
  exact Finset.sum_congr rfl fun r _ => expOf_eq m c s hs b r

/-- A block's weighted sum of rows. -/
theorem pvOf_eq (b : Fin 4) (j : Fin 256) : pvOf m c b (ix2 0 j)
    = ∑ r, Ideal.exp (masked (md m c b) (sc s b) r - top (md m c b) (sc s b))
        * A0 m c (ix3 (ra (8192 * b.val + r.val)) (rb (8192 * b.val + r.val)) j) := by
  unfold pvOf
  rw [pay5_apply]
  exact Finset.sum_congr rfl fun r _ => by rw [expOf_eq m c s hs b r, blkRead_emb_apply]

/-- The pooled row when some row takes part. -/
theorem pooledRow_eq (h : ∃ n : Fin 32768, med (A1 m c) n.val) (j : Fin 256) :
    pooledRow m c (ix2 0 j) = pooled (A0 m c) (A1 m c) s j := by
  have hb : ∃ b r, md m c b r := by
    obtain ⟨n, hn⟩ := h
    refine ⟨⟨n.val / 8192, by have := n.isLt; omega⟩, ⟨n.val % 8192, Nat.mod_lt _ (by decide)⟩, ?_⟩
    show med (A1 m c) (8192 * (n.val / 8192) + n.val % 8192)
    rw [Nat.div_add_mod]; exact hn
  have hw : ∑ b : Fin 4, ∑ r : Fin 8192, wt (md m c b) (sc s b) 0 r = ∑ k : Fin 32768, wt (med (A1 m c)) s 0 k.val :=
    (sum_blocks (A := 4) (B := 8192) (N := 32768) rfl (fun n => wt (med (A1 m c)) s 0 n)).symm
  unfold pooledRow poolOf
  rw [pay6_apply]
  refine (blocked (md m c) (sc s) hb
    (fun b r => A0 m c (ix3 (ra (8192 * b.val + r.val)) (rb (8192 * b.val + r.val)) j))
    (mvOf m c) (zvOf m c) (fun b => pvOf m c b (ix2 0 j)) (mvOf_eq m c s hs) (zvOf_eq m c s hs)
    (fun b => pvOf_eq m c s hs b j) _ _ rfl rfl).trans ?_
  rw [hw]
  exact (sum_blocks (A := 4) (B := 8192) (N := 32768) rfl
    (fun n => A0 m c (ix3 (ra n) (rb n) j) * ((weight (A1 m c) s n : ℝ) : EReal))).symm

omit hs

/-- The kernel's array at an index. -/
theorem outVal_apply (a : Fin 16) (b : Fin 2048) (j : Fin 256) :
    outVal m c (ix3 a b j) = Scalar.select (bitS (A1 m c (ix2 a b))) (A0 m c (ix3 a b j)) 0
      + Scalar.select (bitM (A1 m c (ix2 a b))) (pooledRow m c (ix2 0 j)) 0 := by
  have hlt : 2048 * a.val + b.val < 32768 := by have := a.isLt; have := b.isLt; omega
  have e : outVal m c (ix3 a b j) = outBig m c (ix2 ⟨2048 * a.val + b.val, hlt⟩ j) := by
    unfold outVal
    generalize outBig m c = X
    pointwise
    have e : a.val * 2048 + b.val = 2048 * a.val + b.val := by omega
    simp only [e]
  rw [e]
  have hB : (2048 * a.val + b.val) / 8192 < 4 := by omega
  have hR : (2048 * a.val + b.val) % 8192 < 8192 := Nat.mod_lt _ (by decide)
  have e2 : outBig m c (ix2 ⟨2048 * a.val + b.val, hlt⟩ j)
      = outBlk m c ⟨(2048 * a.val + b.val) / 8192, hB⟩ (ix2 ⟨(2048 * a.val + b.val) % 8192, hR⟩ j) := by
    show outBlk m c ⟨(2048 * a.val + b.val) / 8192, hB⟩ _ = _
    refine congrArg _ ?_
    funext k
    match k with
    | ⟨0, _⟩ => rfl
    | ⟨1, _⟩ => rfl
  rw [e2]
  unfold outBlk
  rw [pay17_apply, inPB_apply, blkRead_emb_apply]
  have hn : 8192 * ((2048 * a.val + b.val) / 8192) + (2048 * a.val + b.val) % 8192 = 2048 * a.val + b.val := Nat.div_add_mod _ _
  show A0 m c (ix3 (ra (8192 * ((2048 * a.val + b.val) / 8192) + (2048 * a.val + b.val) % 8192))
      (rb (8192 * ((2048 * a.val + b.val) / 8192) + (2048 * a.val + b.val) % 8192)) j)
      * (FloatOps.sitofp (F := Ideal) .f32 (BitVec.setWidth 32 (bitS (A1 m c (ix2 (ra (8192 * ((2048 * a.val + b.val) / 8192) + (2048 * a.val + b.val) % 8192))
      (rb (8192 * ((2048 * a.val + b.val) / 8192) + (2048 * a.val + b.val) % 8192)))))) : EReal)
    + (FloatOps.sitofp (F := Ideal) .f32 (BitVec.setWidth 32 (bitM (A1 m c (ix2 (ra (8192 * ((2048 * a.val + b.val) / 8192) + (2048 * a.val + b.val) % 8192))
      (rb (8192 * ((2048 * a.val + b.val) / 8192) + (2048 * a.val + b.val) % 8192)))))) : EReal) * pooledRow m c (ix2 0 j) = _
  rw [hn, ra_row, rb_row, mul_bit, mul_comm, mul_bit]

/-- The two arrays agree when the last layer's weights and bias are real. -/
theorem outVal_eq (hW : ∀ k : Fin 128, A4 m c (ix2 0 k) ≠ ⊤ ∧ A4 m c (ix2 0 k) ≠ ⊥) (hb : A5 m c (ix1 0) ≠ ⊤ ∧ A5 m c (ix1 0) ≠ ⊥) :
    outVal m c = Cert.ReferenceIdeal.Read.val_main_v37 (F := Ideal) (A0 m c) (A1 m c) (A2 m c) (A3 m c) (A4 m c) (A5 m c) := by
  choose s hs using fun n => score_real
    (fun k : Fin 128 => ∑ l : Fin 256, A0 m c (ix3 (ra n) (rb n) l) * A2 m c (ix2 k l) + A3 m c (ix1 k)) (fun k => A4 m c (ix2 0 k)) hW
  have hβ : A5 m c (ix1 0) = ((A5 m c (ix1 0)).toReal : EReal) := (EReal.coe_toReal hb.1 hb.2).symm
  funext i
  obtain ⟨a, b, j, rfl⟩ : ∃ a b j, i = ix3 (n0 := 16) (n1 := 2048) (n2 := 256) a b j := ⟨i 0, i 1, i 2, eq_ix3 i⟩
  rw [outVal_apply, Cert.ReferenceIdeal.Hand.v37_apply]
  have hbit : ∀ p : BitVec 1, p = 0#1 ∨ p = 1#1 := by decide
  rcases hbit (bitM (A1 m c (ix2 a b))) with h0 | h1
  · rw [h0]; rfl
  · have h : ∃ n : Fin 32768, med (A1 m c) n.val := by
      refine ⟨⟨2048 * a.val + b.val, by have := a.isLt; have := b.isLt; omega⟩, ?_⟩
      show bitM (A1 m c (ix2 (ra (2048 * a.val + b.val)) (rb (2048 * a.val + b.val)))) = 1#1
      rw [ra_row, rb_row]; exact h1
    rw [pooledRow_eq m c s hs h j, Cert.ReferenceIdeal.Hand.pool_eq _ _ _ _ _ _ s _ hs hβ h j]

end Cert.KernelIdeal.Hand

end
-- ==== Proof.Pre.lean ====
/-
  What the precondition says of the last layer's weights and bias.
-/
module

public import proofs.«01_k».proof.Pre_finite_scores
public import Idealize.ShloMosaic.Lib.Pointwise

@[expose] public section

noncomputable section

namespace Cert.Pre_finite_scores.Hand

open Cert.Pre_finite_scores
open Idealize.ShloMosaic

/-- The precondition's shape facts. -/
theorem facts : Cert.Pre_finite_scores.Facts where
  bcast_S_S1x128 := by decide
  reducesTo_S1x128_S_d0_1 := by decide
  h_S_ := by decide
  bcast_S_S1 := by decide
  reducesTo_S1_S_d0 := by decide

/-- The infinity pattern is the top of the extended reals. -/
theorem ofBits_inf : Ideal.ofBits .f32 0x7F800000#32 = ⊤ := by simp [Ideal.ofBits, Ideal.ieee]

/-- A conjunction of bits over a finite set is one only when each bit is. -/
theorem fold_and {ι : Type} (u : Finset ι) (i : BitVec 1) (f : ι → BitVec 1) (h : u.fold IntOp.andi i f = 1#1) : ∀ x ∈ u, f x = 1#1 := by
  classical
  induction u using Finset.induction_on with
  | empty => simp
  | insert a u ha ih =>
    rw [Finset.fold_insert ha] at h
    have key : ∀ p q : BitVec 1, IntOp.andi p q = 1#1 → p = 1#1 ∧ q = 1#1 := by decide
    intro x hx
    rcases Finset.mem_insert.mp hx with rfl | hx
    · exact (key _ _ h).1
    · exact ih (key _ _ h).2 x hx

/-- A number whose absolute value is below the top is real. -/
theorem real_of_abs (x : EReal) (h : Ideal.cmp .olt (max x (-x)) ⊤ = 1#1) : x ≠ ⊤ ∧ x ≠ ⊥ := by
  constructor
  · rintro rfl
    simp [Ideal.cmp] at h
  · rintro rfl
    simp [Ideal.cmp] at h

variable [Cert.Pre_finite_scores.Facts]
variable (x0 : FVec Ideal S16x2048x256 .f32) (x1 : IVec S16x2048 32) (x2 : FVec Ideal S128x256 .f32)
  (x3 : FVec Ideal S128 .f32) (x4 : FVec Ideal S1x128 .f32) (x5 : FVec Ideal S1 .f32)

/-- Under the precondition the last layer's weights and bias are real. -/
theorem finite (h : fn (F := Ideal) x0 x1 x2 x3 x4 x5 = fun _ => 1#1) :
    (∀ k : Fin 128, x4 (ix2 0 k) ≠ ⊤ ∧ x4 (ix2 0 k) ≠ ⊥) ∧ (x5 (ix1 0) ≠ ⊤ ∧ x5 (ix1 0) ≠ ⊥) := by
  have h := congrFun h ix0
  pointwise [fn] at h
  rw [ofBits_inf] at h
  have key : ∀ p q : BitVec 1, IntOp.andi p q = 1#1 → p = 1#1 ∧ q = 1#1 := by decide
  obtain ⟨h4, h5⟩ := key _ _ h
  exact ⟨fun k => real_of_abs _ (fold_and _ _ _ h4 (0, k) (Finset.mem_univ _)),
    real_of_abs _ (fold_and _ _ _ h5 0 (Finset.mem_univ _))⟩

end Cert.Pre_finite_scores.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.RunKernel
public import proofs.«01_k».proof.Proof.RunIdeal
public import proofs.«01_k».proof.Proof.Value
public import proofs.«01_k».proof.Proof.Pre
public import Idealize.ShloMosaic.Adequacy
public import Idealize.ShloMosaic.Init

@[expose] public section

noncomputable section

namespace Cert.Proof

open Idealize.ShloMosaic Idealize.SL.Sem Cert.Kernel

/-- The printed kernel runs, keeps its arguments and ends quiet. -/
theorem frame_p : Cert.quiescent_Kernel := fun m ρ _ => Cert.Kernel.Hand.quiescent m ρ

/-- The idealised kernel runs, keeps its arguments and ends quiet. -/
theorem frame_pi : Cert.quiescent_KernelIdeal := fun m ρ _ => Cert.KernelIdeal.Hand.quiescent m ρ

/-- The reference runs, keeps its arguments and ends quiet. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩) (Cert.ReferenceIdeal.Value.run (F := Ideal) m ρ)

/-- The one change of the idealised kernel is its named constant. -/
theorem preserves : Cert.preserves_Kernel_KernelIdeal :=
  IdealRules.named_const.statement Cert.KernelIdeal.κ "mask" .f32 0xF149F2CA#32 ⊥ rfl

instance : Cert.Pre_finite_scores.Facts := Cert.Pre_finite_scores.Hand.facts

/-- The idealised kernel runs under the precondition too. -/
theorem frame_pi_pre : Cert.quiescent_KernelIdeal_pre_finite_scores := fun m ρ _ => Cert.KernelIdeal.Hand.quiescent m ρ

/-- The reference runs under the precondition too. -/
theorem frame_ri_pre : Cert.quiescent_ReferenceIdeal_pre_finite_scores := fun m ρ _ => frame_ri m ρ trivial

/-- From agreeing arguments, the last layer's weights and bias real, the idealised kernel and the reference leave one array. -/
theorem algebraic : Cert.algebraic_KernelIdeal_ReferenceIdeal_pre_finite_scores := by
  intro m ρ m' ρ' hpre hagree
  refine ⟨fun c => Cert.KernelIdeal.Hand.outVal m c,
    (θ_run Cert.KernelIdeal.defs _ _).mono (fun _ h => h.1) (Cert.KernelIdeal.Hand.run_all (F := Ideal) m ρ), ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5⟩ := hagree c
  obtain ⟨hW, hb⟩ := Cert.Pre_finite_scores.Hand.finite _ _ _ _ _ _ (hpre c)
  rw [Cert.ReferenceIdeal.Read.val_main_v37_eq, e0, e1, e2, e3, e4, e5]
  exact (Cert.KernelIdeal.Hand.outVal_eq m c hW hb).symm

/-- Every claim. -/
theorem claim : Cert.Claim := ⟨Cert.Kernel.Gen.facts, Cert.KernelIdeal.Gen.facts, Cert.ReferenceIdeal.Gen.facts, Cert.Pre_finite_scores.Hand.facts,
  frame_p, frame_pi, frame_pi_pre, frame_ri, frame_ri_pre, preserves, algebraic⟩

end Cert.Proof

end
